-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_or_one [hPre_zero_or_one : Cert.Pre_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_or_one [hPre_zero_or_one : Cert.Pre_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_zero_or_one [hKernelIdeal : Cert.KernelIdeal.Facts] [hPre_zero_or_one : Cert.Pre_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_zero_or_one [hReferenceIdeal : Cert.ReferenceIdeal.Facts] [hPre_zero_or_one : Cert.Pre_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_zero_or_one [hKernelIdeal : Cert.KernelIdeal.Facts] [hReferenceIdeal : Cert.ReferenceIdeal.Facts] [hPre_zero_or_one : Cert.Pre_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_zero_or_one : Cert.Pre_zero_or_one.Facts),
    quiescent_Kernel (hKernel := hKernel)
    ∧ quiescent_KernelIdeal (hKernelIdeal := hKernelIdeal)
    ∧ quiescent_KernelIdeal_pre_zero_or_one (hKernelIdeal := hKernelIdeal) (hPre_zero_or_one := hPre_zero_or_one)
    ∧ quiescent_ReferenceIdeal (hReferenceIdeal := hReferenceIdeal)
    ∧ quiescent_ReferenceIdeal_pre_zero_or_one (hReferenceIdeal := hReferenceIdeal) (hPre_zero_or_one := hPre_zero_or_one)
    ∧ preserves_Kernel_KernelIdeal
    ∧ algebraic_KernelIdeal_ReferenceIdeal_pre_zero_or_one (hKernelIdeal := hKernelIdeal) (hReferenceIdeal := hReferenceIdeal) (hPre_zero_or_one := hPre_zero_or_one)
-- ==== Pre_zero_or_one.lean ====
abbrev S128x4x100000 : Shape := ⟨3, ![128, 4, 100000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S128x4x100000 : S_.BroadcastsInDim S128x4x100000 (![] : Fin 0 → Fin S128x4x100000.rank)
  reducesTo_S128x4x100000_S_d0_1_2 : S128x4x100000.ReducesTo [0, 1, 2] S_
  h_S_ : 0 < S_.numel

variable [Facts]

def fn {F : FTy → Type} [FloatOps F] (main_arg0 : IVec S128x4x100000 32) (main_arg1 : FVec F S100000x64 .f32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) : IVec S_ 1 :=
  let main_c : IVec S_ 32 := constantI S_ 32 0#32
  let main_v0 : IVec S128x4x100000 32 := broadcastInDim S128x4x100000 ![] bcast_S_S128x4x100000 main_c
  let main_v1 : IVec S128x4x100000 1 := cmpi .eq main_arg0 main_v0
  let main_c_0 : IVec S_ 32 := constantI S_ 32 1#32
  let main_v2 : IVec S128x4x100000 32 := broadcastInDim S128x4x100000 ![] bcast_S_S128x4x100000 main_c_0
  let main_v3 : IVec S128x4x100000 1 := cmpi .eq main_arg0 main_v2
  let main_v4 : IVec S128x4x100000 1 := ori main_v1 main_v3
  let main_c_1 : IVec S_ 1 := constantI S_ 1 1#1
  let main_v5 : IVec S_ 1 := (fun x v => Host.reduce IntOp.andi x v reducesTo_S128x4x100000_S_d0_1_2 h_S_) main_v4 main_c_1
  main_v5
-- ==== Kernel.lean ====
abbrev S128x4x100000 : Shape := ⟨3, ![128, 4, 100000]⟩
abbrev S100000x64 : Shape := ⟨2, ![100000, 64]⟩
abbrev S64x64 : Shape := ⟨2, ![64, 64]⟩
abbrev S64 : Shape := ⟨1, ![64]⟩
abbrev S4x100000x128 : Shape := ⟨3, ![4, 100000, 128]⟩
abbrev S64x100000 : Shape := ⟨2, ![64, 100000]⟩
abbrev S64x1 : Shape := ⟨2, ![64, 1]⟩
abbrev S64x128 : Shape := ⟨2, ![64, 128]⟩
abbrev S1x16384x128 : Shape := ⟨3, ![1, 16384, 128]⟩
abbrev S64x16384 : Shape := ⟨2, ![64, 16384]⟩
abbrev S4x65x128 : Shape := ⟨3, ![4, 65, 128]⟩
abbrev S1x16384 : Shape := ⟨2, ![1, 16384]⟩
abbrev S65x16384 : Shape := ⟨2, ![65, 16384]⟩
abbrev S16384x128 : Shape := ⟨2, ![16384, 128]⟩
abbrev S65x128 : Shape := ⟨2, ![65, 128]⟩
abbrev S1x65x128 : Shape := ⟨3, ![1, 65, 128]⟩
abbrev S4x64x128 : Shape := ⟨3, ![4, 64, 128]⟩
abbrev S4x1x128 : Shape := ⟨3, ![4, 1, 128]⟩
abbrev S1x64x128 : Shape := ⟨3, ![1, 64, 128]⟩
abbrev S128 : Shape := ⟨1, ![128]⟩
abbrev S1x128 : Shape := ⟨2, ![1, 128]⟩
abbrev S128x64 : Shape := ⟨2, ![128, 64]⟩

abbrev nBuf : Space → Nat
  | .hbm => 28
  | .vmem => 18
  | .smem => 0
  | _ => 0

abbrev bufTy : (tb : Table) → Fin (tcTables nBuf tb) → BufTy
  | .hbm, ⟨0, _⟩ => ⟨S128x4x100000, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S4x100000x128, .i32⟩
  | .hbm, ⟨15, _⟩ => ⟨S64x100000, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S64x128, .f32⟩
  | .hbm, ⟨27, _⟩ => ⟨S128x64, .f32⟩
  | .local _ .vmem, ⟨0, _⟩ => ⟨S1x16384x128, .i32⟩
  | .local _ .vmem, ⟨1, _⟩ => ⟨S1x16384x128, .i32⟩
  | .local _ .vmem, ⟨2, _⟩ => ⟨S64x16384, .f32⟩
  | .local _ .vmem, ⟨3, _⟩ => ⟨S64x16384, .f32⟩
  | .local _ .vmem, ⟨4, _⟩ => ⟨S64x64, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S64x128, .f32⟩
  | .local _ .vmem, ⟨17, _⟩ => ⟨S4x65x128, .f32⟩
  | _, _ => ⟨S128x4x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨2, ![7, 4], ![false, false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_8 : BitVec 32 := 0#32
  let v29 : BitVec 1 := Scalar.cmpi .ne v28 c0_i32_8
  v29

def k0_off1 (i : grid0.Coords) : Fin 3 → Nat :=
  let arg1 : BitVec 32 := BitVec.ofNat 32 (i 1).val
  let v38 : Index := Scalar.indexCast arg1
  let c0_12 : Index := 0#32
  let c0_13 : Index := 0#32
  ![v38.toNat, 0, 0]
def k0_cond2 (i : grid0.Coords) : BitVec 1 :=
  let arg0 : BitVec 32 := BitVec.ofNat 32 (i 0).val
  let c0_i32_9 : BitVec 32 := 0#32
  let v30 : BitVec 1 := Scalar.cmpi .sgt arg0 c0_i32_9
  let v31 : BitVec 32 := Scalar.extui v30
  let c0_i32_10 : BitVec 32 := 0#32
  let v32 : BitVec 1 := Scalar.cmpi .ne v31 c0_i32_10
  v32

def k0_off2 (i : grid0.Coords) : Fin 3 → Nat :=
  let arg1 : BitVec 32 := BitVec.ofNat 32 (i 1).val
  let v38 : Index := Scalar.indexCast arg1
  let c0_12 : Index := 0#32
  let c0_13 : Index := 0#32
  ![v38.toNat, 0, 0]
def k0_cond3 (i : grid0.Coords) : BitVec 1 :=
  let arg0 : BitVec 32 := BitVec.ofNat 32 (i 0).val
  let c6_i32 : BitVec 32 := 6#32
  let v33 : BitVec 1 := Scalar.cmpi .eq arg0 c6_i32
  let arg1 : BitVec 32 := BitVec.ofNat 32 (i 1).val
  let c3_i32 : BitVec 32 := 3#32
  let v34 : BitVec 1 := Scalar.cmpi .eq arg1 c3_i32
  let v35 : BitVec 1 := Scalar.andi v33 v34
  let v36 : BitVec 32 := Scalar.extui v35
  let c0_i32_11 : BitVec 32 := 0#32
  let v37 : BitVec 1 := Scalar.cmpi .ne v36 c0_i32_11
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16384x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S128x4x100000 : Shape := ⟨3, ![128, 4, 100000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S1 : Shape := ⟨1, ![1]⟩
abbrev S128x4 : Shape := ⟨2, ![128, 4]⟩
abbrev S128x4x64 : Shape := ⟨3, ![128, 4, 64]⟩
abbrev S128x4x1 : Shape := ⟨3, ![128, 4, 1]⟩
abbrev S128x64 : Shape := ⟨2, ![128, 64]⟩
abbrev S128 : Shape := ⟨1, ![128]⟩
abbrev S128x1 : Shape := ⟨2, ![128, 1]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S128x4x100000, .i32⟩
  | 1 => ⟨S100000x64, .f32⟩
  | 2 => ⟨S64x64, .f32⟩
  | 3 => ⟨S64, .f32⟩
  | 4 => ⟨S64x64, .f32⟩
  | 5 => ⟨S64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S_, .i32⟩
  | 15 => ⟨S1, .i32⟩
  | 16 => ⟨S_, .f32⟩
  | 17 => ⟨S64, .f32⟩
  | 18 => ⟨S100000x64, .f32⟩
  | 19 => ⟨S_, .i32⟩
  | 20 => ⟨S128x4x100000, .i32⟩
  | 21 => ⟨S128x4x100000, .i1⟩
  | 22 => ⟨S128x4x100000, .f32⟩
  | 23 => ⟨S_, .f32⟩
  | 24 => ⟨S128x4, .f32⟩
  | 25 => ⟨S128x4x64, .f32⟩
  | 26 => ⟨S_, .f32⟩
  | 27 => ⟨S128x4, .f32⟩
  | 28 => ⟨S128x4, .f32⟩
  | 29 => ⟨S128x4x1, .f32⟩
  | 30 => ⟨S128x4x1, .f32⟩
  | 31 => ⟨S_, .f32⟩
  | 32 => ⟨S128x4x1, .f32⟩
  | 33 => ⟨S128x4x1, .i1⟩
  | 34 => ⟨S128x4x64, .f32⟩
  | 35 => ⟨S128x4x64, .f32⟩
  | 36 => ⟨S_, .f32⟩
  | 37 => ⟨S_, .f32⟩
  | 38 => ⟨S128x4x64, .i1⟩
  | 39 => ⟨S128x4x64, .f32⟩
  | 40 => ⟨S128x4x64, .f32⟩
  | 41 => ⟨S_, .f32⟩
  | 42 => ⟨S128x64, .f32⟩
  | 43 => ⟨S_, .f32⟩
  | 44 => ⟨S128x64, .f32⟩
  | 45 => ⟨S128x64, .f32⟩
  | 46 => ⟨S_, .f32⟩
  | 47 => ⟨S128, .f32⟩
  | 48 => ⟨S128x1, .f32⟩
  | 49 => ⟨S_, .f32⟩
  | 50 => ⟨S128x1, .f32⟩
  | 51 => ⟨S128x1, .f32⟩
  | 52 => ⟨S128x64, .f32⟩
  | 53 => ⟨S128x64, .f32⟩
  | 54 => ⟨S128x64, .f32⟩
  | 55 => ⟨S_, .f32⟩
  | 56 => ⟨S128, .f32⟩
  | 57 => ⟨S128x1, .f32⟩
  | 58 => ⟨S_, .f32⟩
  | 59 => ⟨S128x1, .f32⟩
  | 60 => ⟨S128x1, .f32⟩
  | 61 => ⟨S128x64, .f32⟩
  | 62 => ⟨S128x64, .f32⟩
  | 63 => ⟨S_, .f32⟩
  | 64 => ⟨S128x1, .f32⟩
  | 65 => ⟨S128x1, .f32⟩
  | 66 => ⟨S128x1, .f32⟩
  | 67 => ⟨S128x64, .f32⟩
  | 68 => ⟨S128x64, .f32⟩
  | 69 => ⟨S1x64, .f32⟩
  | 70 => ⟨S128x64, .f32⟩
  | 71 => ⟨S128x64, .f32⟩
  | 72 => ⟨S1x64, .f32⟩
  | 73 => ⟨S128x64, .f32⟩
  | 74 => ⟨S128x64, .f32⟩
  | 75 => ⟨S64x64, .f32⟩
  | 76 => ⟨S128x64, .f32⟩
  | 77 => ⟨S1x64, .f32⟩
  | 78 => ⟨S128x64, .f32⟩
  | 79 => ⟨S128x64, .f32⟩
  | 80 => ⟨S_, .f32⟩
  | 81 => ⟨S128x64, .f32⟩
  | 82 => ⟨S128x64, .f32⟩
  | 83 => ⟨S_, .f32⟩
  | 84 => ⟨S_, .f32⟩
  | 85 => ⟨S_, .f32⟩
  | 86 => ⟨S128x64, .f32⟩
  | 87 => ⟨S128x64, .f32⟩
  | 88 => ⟨S1x64, .f32⟩
  | 89 => ⟨S128x64, .f32⟩
  | 90 => ⟨S128x64, .f32⟩
  | 91 => ⟨S1x64, .f32⟩
  | 92 => ⟨S128x64, .f32⟩
  | 93 => ⟨S128x64, .f32⟩
  | 94 => ⟨S_, .f32⟩
  | 95 => ⟨S128, .f32⟩
  | 96 => ⟨S128x1, .f32⟩
  | 97 => ⟨S_, .f32⟩
  | 98 => ⟨S128x1, .f32⟩
  | 99 => ⟨S128x1, .f32⟩
  | 100 => ⟨S128x64, .f32⟩
  | 101 => ⟨S128x64, .f32⟩
  | 102 => ⟨S128x64, .f32⟩
  | 103 => ⟨S_, .f32⟩
  | 104 => ⟨S128, .f32⟩
  | 105 => ⟨S128x1, .f32⟩
  | 106 => ⟨S_, .f32⟩
  | 107 => ⟨S128x1, .f32⟩
  | 108 => ⟨S128x1, .f32⟩
  | 109 => ⟨S128x64, .f32⟩
  | 110 => ⟨S128x64, .f32⟩
  | 111 => ⟨S_, .f32⟩
  | 112 => ⟨S128x1, .f32⟩
  | 113 => ⟨S128x1, .f32⟩
  | 114 => ⟨S128x1, .f32⟩
  | 115 => ⟨S128x64, .f32⟩
  | 116 => ⟨S128x64, .f32⟩
  | 117 => ⟨S1x64, .f32⟩
  | 118 => ⟨S128x64, .f32⟩
  | 119 => ⟨S128x64, .f32⟩
  | 120 => ⟨S1x64, .f32⟩
  | 121 => ⟨S128x64, .f32⟩
  | 122 => ⟨S128x64, .f32⟩
  | 123 => ⟨S64x64, .f32⟩
  | 124 => ⟨S128x64, .f32⟩
  | 125 => ⟨S1x64, .f32⟩
  | 126 => ⟨S128x64, .f32⟩
  | 127 => ⟨S128x64, .f32⟩
  | _ => ⟨S128x4x100000, .i32⟩

abbrev hbmTy0_1 (i : Nat) : BufTy := match i % 128 with
  | 0 => ⟨S_, .f32⟩
  | 1 => ⟨S128x64, .f32⟩
  | 2 => ⟨S128x64, .f32⟩
  | 3 => ⟨S_, .f32⟩
  | 4 => ⟨S_, .f32⟩
  | 5 => ⟨S_, .f32⟩
  | 6 => ⟨S128x64, .f32⟩
  | 7 => ⟨S128x64, .f32⟩
  | 8 => ⟨S1x64, .f32⟩
  | 9 => ⟨S128x64, .f32⟩
  | 10 => ⟨S128x64, .f32⟩
  | 11 => ⟨S1x64, .f32⟩
  | 12 => ⟨S128x64, .f32⟩
  | 13 => ⟨S128x64, .f32⟩
  | _ => ⟨S128x4x100000, .i32⟩

abbrev hbmTy (i : Nat) : BufTy := match i / 128 with
  | 0 => hbmTy0_0 i
  | 1 => hbmTy0_1 i
  | _ => ⟨S128x4x100000, .i32⟩

abbrev bufTy : (tb : Table) → Fin (tcTables nBuf tb) → BufTy
  | .hbm, ⟨i, _⟩ => hbmTy i
  | _, _ => ⟨S128x4x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v16 : Ref sig .tc := ⟨.hbm, 40, rfl⟩
abbrev main_cst_5 : Ref sig .tc := ⟨.hbm, 41, rfl⟩
abbrev main_v17 : Ref sig .tc := ⟨.hbm, 42, rfl⟩
abbrev main_cst_6 : Ref sig .tc := ⟨.hbm, 43, rfl⟩
abbrev main_v18 : Ref sig .tc := ⟨.hbm, 44, rfl⟩
abbrev main_v19 : Ref sig .tc := ⟨.hbm, 45, rfl⟩
abbrev main_cst_7 : Ref sig .tc := ⟨.hbm, 46, rfl⟩
abbrev main_v20 : Ref sig .tc := ⟨.hbm, 47, rfl⟩
abbrev main_v21 : Ref sig .tc := ⟨.hbm, 48, rfl⟩
abbrev main_cst_8 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_9 : Ref sig .tc := ⟨.hbm, 55, rfl⟩
abbrev main_v27 : Ref sig .tc := ⟨.hbm, 56, rfl⟩
abbrev main_v28 : Ref sig .tc := ⟨.hbm, 57, rfl⟩
abbrev main_cst_10 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_11 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_cst : Ref sig .tc := ⟨.hbm, 80, rfl⟩
abbrev main_call1_v0 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call2_cst : Ref sig .tc := ⟨.hbm, 128, rfl⟩
abbrev main_call2_v0 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]
-- ==== Proof.IdealFrame.lean ====
module

public import proofs.«01_k».proof.Proof.Gen.KernelIdeal.Skeleton
public import proofs.«01_k».proof.Proof.Gen.KernelIdeal.Frame
public import Idealize.ShloMosaic.Lib.Tactic
public import proofs.«01_k».proof.Defs

@[expose] public section

noncomputable section

namespace Cert.EncoderIdealFrame

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel's variants: it has no loop, so none. -/
abbrev 𝒱₀ : Variants := Variants.none

/-- A buffer held whole, at contents that are not named: all that the frame says of any of the kernel's buffers. -/
abbrev held (c : Dev nD) {sp : Space} {sh : Shape} {e : EltTy} (m : Memref sig .tc sp sh e) : sProp 𝕄 :=
  iprop(∃ X, owns (c : Thread nD τ) m fullShare X)

/-- A memref's cells at some raw contents are the memref held. -/
theorem held_intro (c : Dev nD) {sp : Space} {sh : Shape} {e : EltTy} (m : Memref sig .tc sp sh e) (f : Buf (Elt F) (m.view.loc (c : Thread nD τ))) :
    (m.view.loc (c : Thread nD τ) ↦[m.view.set]{fullShare} f) ⊢ held (F := F) c m := by
  iintro H
  iexists (m.view.read (Elt F) f)
  unfold owns
  iexists f
  isplitr; · ipureintro; rfl
  iexact H

/-- The body of a grid point, whatever the point's coordinates decide: it may run on the sixteen buffers it names, each
    at any contents, and hands each back. The two conditional stores into the accumulator and the final stage are each
    taken or not, so the three conditions' cases are run one by one. -/
theorem body_held (c : Dev nD) (E : Set ℕ) (i : grid0.Coords) (arg2 : Memref sig .tc .vmem S1x16384x128 .i32) (harg2 : arg2.IsWhole) (arg3 : Memref sig .tc .vmem S64x16384 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x128 .f32) (harg16 : arg16.IsWhole) (arg17 : Memref sig .tc .vmem S4x65x128 .f32) (harg17 : arg17.IsWhole) (K : PUnit → sProp 𝕄) :
    iprop((held (F := F) c arg2 ∗ held (F := F) c arg3 ∗ held (F := F) c arg4 ∗ held (F := F) c arg5 ∗ held (F := F) c arg6 ∗ held (F := F) c arg7 ∗ held (F := F) c arg8 ∗ held (F := F) c arg9 ∗ held (F := F) c arg10 ∗ held (F := F) c arg11 ∗ held (F := F) c arg12 ∗ held (F := F) c arg13 ∗ held (F := F) c arg14 ∗ held (F := F) c arg15 ∗ held (F := F) c arg16 ∗ held (F := F) c arg17)
          ∗ (iprop(held (F := F) c arg2 ∗ held (F := F) c arg3 ∗ held (F := F) c arg4 ∗ held (F := F) c arg5 ∗ held (F := F) c arg6 ∗ held (F := F) c arg7 ∗ held (F := F) c arg8 ∗ held (F := F) c arg9 ∗ held (F := F) c arg10 ∗ held (F := F) c arg11 ∗ held (F := F) c arg12 ∗ held (F := F) c arg13 ∗ held (F := F) c arg14 ∗ held (F := F) c arg15 ∗ held (F := F) c arg16 ∗ held (F := F) c arg17) -∗ K ⟨⟩))
      ⊢ wp frame (wpE (defs₀ (F := F)) 𝒱₀ c none) E
          (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encoder_kernel_eq_skeleton]
  unfold cc0__encoder_kernel_skel held owns
  iintro ⟨⟨⟨%X2, %f2, %hf2, H2⟩, ⟨%X3, %f3, %hf3, H3⟩, ⟨%X4, %f4, %hf4, H4⟩, ⟨%X5, %f5, %hf5, H5⟩, ⟨%X6, %f6, %hf6, H6⟩, ⟨%X7, %f7, %hf7, H7⟩, ⟨%X8, %f8, %hf8, H8⟩, ⟨%X9, %f9, %hf9, H9⟩, ⟨%X10, %f10, %hf10, H10⟩, ⟨%X11, %f11, %hf11, H11⟩, ⟨%X12, %f12, %hf12, H12⟩, ⟨%X13, %f13, %hf13, H13⟩, ⟨%X14, %f14, %hf14, H14⟩, ⟨%X15, %f15, %hf15, H15⟩, ⟨%X16, %f16, %hf16, H16⟩, ⟨%X17, %f17, %hf17, H17⟩⟩, Hk⟩
  by_cases h1 : k0_cond1 i = 1#1 <;> by_cases h2 : k0_cond2 i = 1#1 <;> by_cases h3 : k0_cond3 i = 1#1
  all_goals
    sl_exec
    sl_step
    iapply Hk
    isplitl [H2]; · iapply (held_intro (F := F) c arg2 _); iexact H2
    isplitl [H3]; · iapply (held_intro (F := F) c arg3 _); iexact H3
    isplitl [H4]; · iapply (held_intro (F := F) c arg4 _); iexact H4
    isplitl [H5]; · iapply (held_intro (F := F) c arg5 _); iexact H5
    isplitl [H6]; · iapply (held_intro (F := F) c arg6 _); iexact H6
    isplitl [H7]; · iapply (held_intro (F := F) c arg7 _); iexact H7
    isplitl [H8]; · iapply (held_intro (F := F) c arg8 _); iexact H8
    isplitl [H9]; · iapply (held_intro (F := F) c arg9 _); iexact H9
    isplitl [H10]; · iapply (held_intro (F := F) c arg10 _); iexact H10
    isplitl [H11]; · iapply (held_intro (F := F) c arg11 _); iexact H11
    isplitl [H12]; · iapply (held_intro (F := F) c arg12 _); iexact H12
    isplitl [H13]; · iapply (held_intro (F := F) c arg13 _); iexact H13
    isplitl [H14]; · iapply (held_intro (F := F) c arg14 _); iexact H14
    isplitl [H15]; · iapply (held_intro (F := F) c arg15 _); iexact H15
    isplitl [H16]; · iapply (held_intro (F := F) c arg16 _); iexact H16
    iapply (held_intro (F := F) c arg17 _); iexact H17

/-- What the run says of the contents: nothing. The arrays start at what @main's lines before the region leave there;
    the invariant is the class's own, the accumulator at some contents. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

/-- Every window's contents are forgotten. -/
abbrev fgt : Fin cfg0.W → Bool := fun _ => true

/-- The body table's row for the kernel is its body at the point. -/
theorem defs₀_row (t : Fin cfg0.N) : defs₀ (F := F) .tc cfg0.body (cfg0.bodyArgs t (cfg0.slots t)) = bodyAt0 t := by
  unfold defs₀; rw [Defs.onTc_tc]

/-- The body at a point, on the windows' current buffers and the accumulator, each at any contents: it hands them back
    at some contents. -/
theorem body_point (m : (ℓ : Loc nD τ sig) → Buf (Elt F) ℓ) (c : Dev nD) (t : Fin cfg0.N) :
    iprop(Pipeline.ΦA spec0 c ∗ (dats m 0 c).owesAt () t.castSucc ∗ held (F := F) c (st0_0 t) ∗ held (F := F) c (st0_1 t) ∗ held (F := F) c (st0_2 t) ∗ held (F := F) c (st0_3 t) ∗ held (F := F) c (st0_4 t) ∗ held (F := F) c (st0_5 t) ∗ held (F := F) c (st0_6 t) ∗ held (F := F) c (st0_7 t) ∗ held (F := F) c (st0_8 t) ∗ held (F := F) c (st0_9 t) ∗ held (F := F) c (st0_10 t) ∗ held (F := F) c (st0_11 t) ∗ held (F := F) c (st0_12 t) ∗ held (F := F) c (st0_13 t) ∗ held (F := F) c (st0_14 t))
      ⊢ wp frame (wpE (defs₀ (F := F)) 𝒱₀ c none) Set.univ (bodyAt0 t) fun _ =>
          iprop(Pipeline.ΦA spec0 c ∗ (dats m 0 c).owesAt () t.castSucc ∗ held (F := F) c (st0_0 t) ∗ held (F := F) c (st0_1 t) ∗ held (F := F) c (st0_2 t) ∗ held (F := F) c (st0_3 t) ∗ held (F := F) c (st0_4 t) ∗ held (F := F) c (st0_5 t) ∗ held (F := F) c (st0_6 t) ∗ held (F := F) c (st0_7 t) ∗ held (F := F) c (st0_8 t) ∗ held (F := F) c (st0_9 t) ∗ held (F := F) c (st0_10 t) ∗ held (F := F) c (st0_11 t) ∗ held (F := F) c (st0_12 t) ∗ held (F := F) c (st0_13 t) ∗ held (F := F) c (st0_14 t)) := by
  unfold Pipeline.ΦA
  rw [scopedRest0_eq]
  iintro ⟨⟨⟨%fs, HS⟩, HP⟩, Ho, H0, H1, H2, H3, H4, H5, H6, H7, H8, H9, H10, H11, H12, H13, H14⟩
  iapply (body_held (F := F) c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) (Memref.whole cc0_scratch0) (Memref.isWhole_whole _) _)
  isplitl [H0 H1 H2 H3 H4 H5 H6 H7 H8 H9 H10 H11 H12 H13 H14 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists fs; rw [owns_whole]; iexact HS
  iintro ⟨H0, H1, H2, H3, H4, H5, H6, H7, H8, H9, H10, H11, H12, H13, H14, ⟨%gs, HS⟩⟩
  isplitl [HS HP]
  · isplitl [HS]
    · iexists gs; iapply (Entails.of_eq (owns_whole (c : Thread nD τ) cc0_scratch0 fullShare gs)); iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body's obligation at every point. -/
theorem body_obligation (m : (ℓ : Loc nD τ sig) → Buf (Elt F) ℓ) (c : Dev nD) :
    BodyObligationLoose (dats m 0 c) (defs₀ (F := F)) 𝒱₀ () Set.univ fgt := fun t => by
  rw [bigSep_W0]
  exact triple_restated (body_point m c t) rfl .rfl fun _ => .rfl

/-- The one buffer that @main's line after the region writes: the program's result. -/
abbrev tailWrites : Finset (Ref sig .tc) := {main_v13}

set_option backward.isDefEq.respectTransparency.types false in
/-- Every weakly fair execution of @main terminates; the arrays the region stages hold contents the run may leave, every
    buffer no window stages — the result apart — holds what it held, and every counter ends at zero. -/
theorem run_main (m : (ℓ : Loc nD τ sig) → Buf (Elt F) ℓ) (ρ : Dev nD → PrngReg) :
    θ_run defs (onTc (τ := τ) (main (F := F))) (s₀ m ρ) (fun r =>
      Pipeline.RDat.FramePostR cfg0 (fun c => (dats m 0 c).toRForget fgt) tailWrites (fun c b => V0 m c (Proc.devRef .tc b)) r
        ∧ r.2.sem = fun _ => 0) :=
  Pipeline.θ_run_frame_around_T_forget cfgs (dats m) 0 launch0 defs₀ 𝒱₀ fgt tailWrites m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      simp only [StableHlo.unary_writes, Finset.mem_singleton] at hb
      by_contra hne
      exact StableHlo.devRef_ne_of_ne (fun e => hne (by rw [e]; exact Finset.mem_singleton_self _)) hb)
    (hmain := hmain m 𝒱₀) (hA := fun _ _ => rfl) (hΦ := fun _ _ => rfl)
    (Q' := fun r => Pipeline.RDat.FramePostR cfg0 (fun c => (dats m 0 c).toRForget fgt) tailWrites (fun c b => V0 m c (Proc.devRef .tc b)) r
        ∧ r.2.sem = fun _ => 0)
    (hQ' := fun _ h => h)

/-- The arrays the region stages as inputs end as they were. -/
theorem input_kept (m : (ℓ : Loc nD τ sig) → Buf (Elt F) ℓ) (c : Dev nD) (w : Fin cfg0.W) (hin : (cfg0.win w).isOut = false) (B)
    (h : ((dats m 0 c).toRForget fgt).ArrAt w cfg0.N B) : B = V m c (Pipeline.arrRef spec0 w) := by
  rw [Pipeline.RDat.ArrAt_in _ w hin] at h
  exact h

/-- The kernel's frame: it runs on any inputs, its fourteen argument arrays end as they were and every counter ends at
    zero. -/
theorem frame : Cert.quiescent_KernelIdeal := by
  intro m ρ _
  refine (θ_run defs _ _).mono (fun r h => ⟨fun c => ?_, h.2⟩) (run_main (F := Ideal) m ρ)
  have hw := (h.1 c).1
  have hb := (h.1 c).2
  exact ⟨
    (hb main_arg0 (Finset.mem_sdiff.mpr ⟨Pipeline.mem_restRefs_of main_arg0 (by decide) (by decide), by decide⟩)).trans (V_main_arg0 m c),
    (hb main_arg1 (Finset.mem_sdiff.mpr ⟨Pipeline.mem_restRefs_of main_arg1 (by decide) (by decide), by decide⟩)).trans (V_main_arg1 m c),
    (input_kept m c 2 rfl _ (hw 2)).trans (V_main_arg2 m c),
    (hb main_arg3 (Finset.mem_sdiff.mpr ⟨Pipeline.mem_restRefs_of main_arg3 (by decide) (by decide), by decide⟩)).trans (V_main_arg3 m c),
    (input_kept m c 4 rfl _ (hw 4)).trans (V_main_arg4 m c),
    (hb main_arg5 (Finset.mem_sdiff.mpr ⟨Pipeline.mem_restRefs_of main_arg5 (by decide) (by decide), by decide⟩)).trans (V_main_arg5 m c),
    (hb main_arg6 (Finset.mem_sdiff.mpr ⟨Pipeline.mem_restRefs_of main_arg6 (by decide) (by decide), by decide⟩)).trans (V_main_arg6 m c),
    (hb main_arg7 (Finset.mem_sdiff.mpr ⟨Pipeline.mem_restRefs_of main_arg7 (by decide) (by decide), by decide⟩)).trans (V_main_arg7 m c),
    (hb main_arg8 (Finset.mem_sdiff.mpr ⟨Pipeline.mem_restRefs_of main_arg8 (by decide) (by decide), by decide⟩)).trans (V_main_arg8 m c),
    (hb main_arg9 (Finset.mem_sdiff.mpr ⟨Pipeline.mem_restRefs_of main_arg9 (by decide) (by decide), by decide⟩)).trans (V_main_arg9 m c),
    (hb main_arg10 (Finset.mem_sdiff.mpr ⟨Pipeline.mem_restRefs_of main_arg10 (by decide) (by decide), by decide⟩)).trans (V_main_arg10 m c),
    (hb main_arg11 (Finset.mem_sdiff.mpr ⟨Pipeline.mem_restRefs_of main_arg11 (by decide) (by decide), by decide⟩)).trans (V_main_arg11 m c),
    (hb main_arg12 (Finset.mem_sdiff.mpr ⟨Pipeline.mem_restRefs_of main_arg12 (by decide) (by decide), by decide⟩)).trans (V_main_arg12 m c),
    (hb main_arg13 (Finset.mem_sdiff.mpr ⟨Pipeline.mem_restRefs_of main_arg13 (by decide) (by decide), by decide⟩)).trans (V_main_arg13 m c)⟩

end Cert.EncoderIdealFrame

end
-- ==== Proof.ReferenceFrame.lean ====
module

public import proofs.«01_k».proof.Proof.Gen.ReferenceIdeal.Run
public import Idealize.ShloMosaic.Lib.Quiescent
public import proofs.«01_k».proof.Defs

@[expose] public section

noncomputable section

namespace Cert.EncoderReference

open Idealize.ShloMosaic Idealize.SL.Sem

/-- The reference's frame: it runs on any inputs, its fourteen argument arrays end as they were, and it has no counters. -/
theorem frame : Cert.quiescent_ReferenceIdeal := by
  intro m ρ _
  exact (θ_run Cert.ReferenceIdeal.defs _ _).mono (fun r h => ⟨fun c => (h c).2,
      Idealize.ShloMosaic.sem_eq_zero_of_no_sems (by decide) r.2⟩) (Cert.ReferenceIdeal.Value.run (F := Ideal) m ρ)

end Cert.EncoderReference

end
-- ==== Proof.ReferenceTerm.lean ====
module

public import proofs.«01_k».proof.Proof.Gen.ReferenceIdeal.Run
public import Idealize.ShloMosaic.Lib.Pointwise

@[expose] public section

set_option maxRecDepth 16384

noncomputable section

namespace Cert.EncoderReference

open Cert.ReferenceIdeal Cert.ReferenceIdeal.Gen Idealize.ShloMosaic Idealize.ShloMosaic.TcCoe Idealize.SL.Sem

/-- The 0/1 mask of the reference as floats: one where the mask word is 1. -/
def refMask (x : IVec S128x4x100000 32) : FVec Ideal S128x4x100000 .f32 :=
  uitofp .f32 (cmpi .eq x (broadcastInDim S128x4x100000 ![] bcast_S_S128x4x100000 (constantI S_ 32 1#32)))

/-- The number of ones of each (batch, question) row. -/
def refCount (x : IVec S128x4x100000 32) : FVec Ideal S128x4 .f32 :=
  Host.reduceAdd (refMask x) (constant S_ .f32 0x00000000#32) reducesTo_S128x4x100000_S128x4_d2 h_S_

/-- The embedding table with its row 0 set to zero. -/
def refTable (t : FVec Ideal S100000x64 .f32) : FVec Ideal S100000x64 .f32 :=
  Host.scatter scatter_S100000x64_S1_S64_0_0_0_0 (fun _ b => b) t
    (broadcastInDim S1 ![] bcast_S_S1 (constantI S_ 32 0#32)) (broadcastInDim S64 ![] bcast_S_S64 (constant S_ .f32 0x00000000#32))

/-- The sum of the selected embedding rows. -/
def refSums (x : IVec S128x4x100000 32) (t : FVec Ideal S100000x64 .f32) : FVec Ideal S128x4x64 .f32 :=
  Host.dotGeneral dot_S128x4x100000_S100000x64_S128x4x64_2_0_01_1_n_n none (refMask x) (refTable t)

/-- The mean of the selected rows of each question, zero where none is selected. -/
def refPooled (x : IVec S128x4x100000 32) (t : FVec Ideal S100000x64 .f32) : FVec Ideal S128x4x64 .f32 :=
  select
    (broadcastInDim S128x4x64 ![0, 1, 2] bcast_S128x4x1_S128x4x64_0_1_2
      (cmpf .ogt (broadcastInDim S128x4x1 ![0, 1] bcast_S128x4_S128x4x1_0_1 (refCount x) : FVec Ideal S128x4x1 .f32)
        (broadcastInDim S128x4x1 ![] bcast_S_S128x4x1 (constant S_ .f32 0x00000000#32))))
    (Host.divf (refSums x t)
      (broadcastInDim S128x4x64 ![0, 1, 2] bcast_S128x4x1_S128x4x64_0_1_2
        (broadcastInDim S128x4x1 ![0, 1] bcast_S128x4_S128x4x1_0_1
          (maximumf (refCount x) (broadcastInDim S128x4 ![] bcast_S_S128x4 (constant S_ .f32 0x3F800000#32))))))
    (broadcastInDim S128x4x64 ![] bcast_S_S128x4x64 (id (constant S_ .f32 0x00000000#32)))

/-- The mean over the four questions. -/
def refMean (x : IVec S128x4x100000 32) (t : FVec Ideal S100000x64 .f32) : FVec Ideal S128x64 .f32 :=
  Host.divf (Host.reduceAdd (refPooled x t) (constant S_ .f32 0x00000000#32) reducesTo_S128x4x64_S128x64_d1 h_S_)
    (broadcastInDim S128x64 ![] bcast_S_S128x64 (constant S_ .f32 0x40800000#32))

/-- The mean of each row's 64 features. -/
def refRow (h : FVec Ideal S128x64 .f32) : FVec Ideal S128x1 .f32 :=
  Host.divf (broadcastInDim S128x1 ![0] bcast_S128_S128x1_0
      (Host.reduceAdd h (constant S_ .f32 0x00000000#32) reducesTo_S128x64_S128_d1 h_S_))
    (broadcastInDim S128x1 ![] bcast_S_S128x1 (constant S_ .f32 0x42800000#32))

/-- The features less their row's mean. -/
def refCentred (h : FVec Ideal S128x64 .f32) : FVec Ideal S128x64 .f32 :=
  subf h (broadcastInDim S128x64 ![0, 1] bcast_S128x1_S128x64_0_1 (refRow h))

/-- A vector of 64 features laid over the rows. -/
def refOver (w : FVec Ideal S64 .f32) : FVec Ideal S128x64 .f32 :=
  broadcastInDim S128x64 ![0, 1] bcast_S1x64_S128x64_0_1 (broadcastInDim S1x64 ![1] bcast_S64_S1x64_1 w)

/-- The layer normalisation. -/
def refNorm (h : FVec Ideal S128x64 .f32) (lw lb : FVec Ideal S64 .f32) : FVec Ideal S128x64 .f32 :=
  addf (mulf (Host.divf (refCentred h)
      (broadcastInDim S128x64 ![0, 1] bcast_S128x1_S128x64_0_1
        (Host.sqrt (addf (refRow (mulf (refCentred h) (refCentred h)))
          (broadcastInDim S128x1 ![] bcast_S_S128x1 (constant S_ .f32 0x3727C5AC#32)))))) (refOver lw)) (refOver lb)

/-- One layer: layer normalisation, a linear map, the positive part and an affine map per feature. -/
def refLayer (h : FVec Ideal S128x64 .f32) (lw lb : FVec Ideal S64 .f32) (W : FVec Ideal S64x64 .f32)
    (fb bw bb : FVec Ideal S64 .f32) : FVec Ideal S128x64 .f32 :=
  addf (mulf (Host.divf (maximumf
      (addf (Host.dotGeneral dot_S128x64_S64x64_S128x64_1_0_0_1_n_n none (refNorm h lw lb)
        (transpose S64x64 [1, 0] W transposes_S64x64_S64x64_1_0)) (refOver fb))
      (broadcastInDim S128x64 ![] bcast_S_S128x64 (constant S_ .f32 0x00000000#32)))
    (broadcastInDim S128x64 ![] bcast_S_S128x64 (id (Host.sqrt (constant S_ .f32 0x3F800054#32))))) (refOver bw)) (refOver bb)

/-- The reference's result is two layers on the mean of the questions. -/
theorem res_eq (m : (ℓ : Loc nD τ sig) → Buf (Elt Ideal) ℓ) (c : Dev nD) :
    Value.res_main_v99 (F := Ideal) m c =
      refLayer (refLayer (refMean (m ((c.tc : Thread nD τ).loc main_arg0)) (m ((c.tc : Thread nD τ).loc main_arg1)))
          (m ((c.tc : Thread nD τ).loc main_arg6)) (m ((c.tc : Thread nD τ).loc main_arg7))
          (m ((c.tc : Thread nD τ).loc main_arg2)) (m ((c.tc : Thread nD τ).loc main_arg3))
          (m ((c.tc : Thread nD τ).loc main_arg10)) (m ((c.tc : Thread nD τ).loc main_arg11)))
        (m ((c.tc : Thread nD τ).loc main_arg8)) (m ((c.tc : Thread nD τ).loc main_arg9))
        (m ((c.tc : Thread nD τ).loc main_arg4)) (m ((c.tc : Thread nD τ).loc main_arg5))
        (m ((c.tc : Thread nD τ).loc main_arg12)) (m ((c.tc : Thread nD τ).loc main_arg13)) := by
  simp only [Value.res_main_v99, refLayer, refNorm, refOver, refCentred, refRow, refMean, refPooled, refSums, refTable,
    refCount, refMask]

end Cert.EncoderReference

end
-- ==== Proof.ReferenceTable.lean ====
module

public import proofs.«01_k».proof.Proof.ReferenceTerm
public import Idealize.ShloMosaic.Lib.Routing.OpsOne

@[expose] public section

set_option maxRecDepth 16384

noncomputable section

namespace Cert.EncoderReference

open Cert.ReferenceIdeal Cert.ReferenceIdeal.Gen Idealize.ShloMosaic

/-- The dimension numbers of the scatter that clears row 0. -/
abbrev rowDims : ScatterDims S100000x64 S1 S64 := scatter_S100000x64_S1_S64_0_0_0_0

/-- The scatter starts at row and column zero: its index word is zero. -/
theorem start_zero (j : S64.Idx) (a : Fin 2) :
    rowDims.start j (broadcastInDim S1 ![] bcast_S_S1 (constantI S_ 32 0#32)) a = 0 := by
  unfold ScatterDims.start
  split
  · rfl
  · rfl

/-- An update's row within its window is zero. -/
theorem window_row (j : S64.Idx) : rowDims.window j 0 = 0 := by
  unfold ScatterDims.window
  rw [dif_neg]
  show ¬ (0 : Fin 2) ∈ S100000x64.kept [0]
  decide

/-- An update's column within its window is its place. -/
theorem window_col (j : S64.Idx) : rowDims.window j 1 = (j 0).val := by
  unfold ScatterDims.window
  refine (dif_pos (show (1 : Fin 2) ∈ S100000x64.kept [0] by decide)).trans ?_
  rfl

/-- The table with its row 0 set to zero, at an entry. -/
theorem table_at (t : FVec Ideal S100000x64 .f32) (v : Fin 100000) (r : Fin 64) :
    refTable t (ix2 v r) = if v.val = 0 then 0 else t (ix2 v r) := by
  have lands : ∀ j : S64.Idx, rowDims.resultIdx? j (broadcastInDim S1 ![] bcast_S_S1 (constantI S_ 32 0#32)) = some (ix2 v r)
      ↔ 0 = v.val ∧ (j 0).val = r.val := by
    intro j
    refine (Routing.resultIdx?_ix2 (R := 100000) (C := 64) rowDims j _ v r).trans ?_
    rw [start_zero, start_zero, window_row, window_col]
    omega
  unfold refTable
  by_cases hv : v.val = 0
  · rw [if_pos hv]
    refine Routing.scatter_set_hit rowDims t _ _ _ 0 (fun j _ => ?_) (ix1 r) ((lands _).2 ⟨hv.symm, rfl⟩)
    pointwise
  · rw [if_neg hv]
    exact Routing.scatter_set_miss rowDims t _ _ _ (fun j hj => hv ((lands j).1 hj).1.symm)

end Cert.EncoderReference

end
-- ==== Proof.IdealBody.lean ====
module

public import proofs.«01_k».proof.Proof.Gen.KernelIdeal.Skeleton
public import proofs.«01_k».proof.Proof.Gen.KernelIdeal.Frame
public import Idealize.ShloMosaic.Lib.Tactic
public import Idealize.ShloMosaic.Lib.VecWindow

@[expose] public section

noncomputable section

namespace Cert.EncoderIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel's variants: it has no loop, so none. -/
abbrev 𝒱₀ : Variants := Variants.none

/-- The accumulator after a point of the first vocabulary block: the point's pass is stored over its slab. -/
def accFirst (i : grid0.Coords) (X2 : S1x16384x128.Idx → Elt F .i32) (X3 : S64x16384.Idx → Elt F .f32) (X17 : S4x65x128.Idx → Elt F .f32) :
    S4x65x128.Idx → Elt F .f32 :=
  VecWindow.put X17 (k0_off1 i) S1x65x128.size (k0_pay16 i X3 X2)

/-- The accumulator after a point of a later vocabulary block: the point's contribution is added to its pass's slab. -/
def accLater (i : grid0.Coords) (h : k0_cond2 i = 1#1) (X2 : S1x16384x128.Idx → Elt F .i32) (X3 : S64x16384.Idx → Elt F .f32)
    (X17 : S4x65x128.Idx → Elt F .f32) : S4x65x128.Idx → Elt F .f32 :=
  VecWindow.put X17 (k0_off2 i) S1x65x128.size
    (k0_pay17 i X3 X2 (VecWindow.window X17 (k0_off2 i) S1x65x128.size (k0_off2_inb i h)))

/-- The encoder's first half, of the accumulated sums: mean over the passes, normalization, first layer. -/
def stage1 (A : S4x65x128.Idx → Elt F .f32) (X4 : S64x64.Idx → Elt F .f32) (X5 X8 X9 X12 X13 : S64x1.Idx → Elt F .f32) : FVec F S64x128 .f32 :=
  k0_pay9 (k0_pay3 X8) (k0_pay4 X9) (k0_pay6 A) (k0_pay7 A) (k0_pay8 (F := F)) X4 X5 X12 X13

/-- The encoder's result, of the accumulated sums and the weights. -/
def finalOut (A : S4x65x128.Idx → Elt F .f32) (X4 X6 : S64x64.Idx → Elt F .f32) (X5 X7 X8 X9 X10 X11 X12 X13 X14 X15 : S64x1.Idx → Elt F .f32) :
    S64x128.Idx → Elt F .f32 :=
  k0_pay1 (stage1 A X4 X5 X8 X9 X12 X13) (k0_pay10 X10) (k0_pay11 X11)
    (k0_pay12 (k0_pay3 X8) (k0_pay4 X9) (k0_pay6 A) (k0_pay7 A) (k0_pay8 (F := F)) X4 X5 X12 X13)
    (k0_pay13 (k0_pay3 X8) (k0_pay4 X9) (k0_pay6 A) (k0_pay7 A) (k0_pay8 (F := F)) X4 X5 X12 X13)
    (k0_pay14 (F := F)) X6 X7 X14 X15

variable (c : Dev nD) (E : Set ℕ) (i : grid0.Coords)

/-- A point of the first vocabulary block, which is not the grid's last: its pass is stored over the accumulator's slab. -/
theorem body_first (h1 : k0_cond1 i = 1#1) (h2 : ¬ k0_cond2 i = 1#1) (h3 : ¬ k0_cond3 i = 1#1)
    (arg2 : Memref sig .tc .vmem S1x16384x128 .i32) (harg2 : arg2.IsWhole) (arg3 : Memref sig .tc .vmem S64x16384 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x128 .f32) (harg16 : arg16.IsWhole) (arg17 : Memref sig .tc .vmem S4x65x128 .f32) (harg17 : arg17.IsWhole)
    (X2 : S1x16384x128.Idx → Elt F .i32) (X3 : S64x16384.Idx → Elt F .f32) (X4 : S64x64.Idx → Elt F .f32) (X5 : S64x1.Idx → Elt F .f32) (X6 : S64x64.Idx → Elt F .f32) (X7 : S64x1.Idx → Elt F .f32) (X8 : S64x1.Idx → Elt F .f32) (X9 : S64x1.Idx → Elt F .f32) (X10 : S64x1.Idx → Elt F .f32) (X11 : S64x1.Idx → Elt F .f32) (X12 : S64x1.Idx → Elt F .f32) (X13 : S64x1.Idx → Elt F .f32) (X14 : S64x1.Idx → Elt F .f32) (X15 : S64x1.Idx → Elt F .f32) (X16 : S64x128.Idx → Elt F .f32) (X17 : S4x65x128.Idx → Elt F .f32)
    (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17)
          ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare (accFirst i X2 X3 X17)) -∗ K ⟨⟩))
      ⊢ wp frame (wpE (defs₀ (F := F)) 𝒱₀ c none) E
          (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encoder_kernel_eq_skeleton]
  unfold cc0__encoder_kernel_skel owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  subst hf2; subst hf3; subst hf4; subst hf5; subst hf6; subst hf7; subst hf8; subst hf9; subst hf10; subst hf11; subst hf12; subst hf13; subst hf14; subst hf15; subst hf16; subst hf17
  sl_exec
  sl_step
  iapply Hk
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact rfl
  isplitl [H16]
  · iexists _; isplitr; swap; · iexact H16
    ipureintro; exact rfl
  · iexists _; isplitr; swap; · iexact H17
    ipureintro; rw [View.read_writes_cons_put (h := rfl), View.readAt_full, View.readAt_full]; rfl

/-- A point of a later vocabulary block that is not the grid's last: its contribution is added to the accumulator's slab. -/
theorem body_later (h1 : ¬ k0_cond1 i = 1#1) (h2 : k0_cond2 i = 1#1) (h3 : ¬ k0_cond3 i = 1#1)
    (arg2 : Memref sig .tc .vmem S1x16384x128 .i32) (harg2 : arg2.IsWhole) (arg3 : Memref sig .tc .vmem S64x16384 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x128 .f32) (harg16 : arg16.IsWhole) (arg17 : Memref sig .tc .vmem S4x65x128 .f32) (harg17 : arg17.IsWhole)
    (X2 : S1x16384x128.Idx → Elt F .i32) (X3 : S64x16384.Idx → Elt F .f32) (X4 : S64x64.Idx → Elt F .f32) (X5 : S64x1.Idx → Elt F .f32) (X6 : S64x64.Idx → Elt F .f32) (X7 : S64x1.Idx → Elt F .f32) (X8 : S64x1.Idx → Elt F .f32) (X9 : S64x1.Idx → Elt F .f32) (X10 : S64x1.Idx → Elt F .f32) (X11 : S64x1.Idx → Elt F .f32) (X12 : S64x1.Idx → Elt F .f32) (X13 : S64x1.Idx → Elt F .f32) (X14 : S64x1.Idx → Elt F .f32) (X15 : S64x1.Idx → Elt F .f32) (X16 : S64x128.Idx → Elt F .f32) (X17 : S4x65x128.Idx → Elt F .f32)
    (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17)
          ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare (accLater i h2 X2 X3 X17)) -∗ K ⟨⟩))
      ⊢ wp frame (wpE (defs₀ (F := F)) 𝒱₀ c none) E
          (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encoder_kernel_eq_skeleton]
  unfold cc0__encoder_kernel_skel owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  subst hf2; subst hf3; subst hf4; subst hf5; subst hf6; subst hf7; subst hf8; subst hf9; subst hf10; subst hf11; subst hf12; subst hf13; subst hf14; subst hf15; subst hf16; subst hf17
  sl_exec
  sl_step
  iapply Hk
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact rfl
  isplitl [H16]
  · iexists _; isplitr; swap; · iexact H16
    ipureintro; exact rfl
  · iexists _; isplitr; swap; · iexact H17
    ipureintro; rw [View.read_writes_cons_put (h := rfl), View.readAt_full, View.readAt_full, View.readAt_unit (h := rfl) (inb' := k0_off2_inb i h2)]; rfl

/-- The grid's last point: its contribution is added to the accumulator's slab, and the encoder's result is stored. -/
theorem body_last (h1 : ¬ k0_cond1 i = 1#1) (h2 : k0_cond2 i = 1#1) (h3 : k0_cond3 i = 1#1)
    (arg2 : Memref sig .tc .vmem S1x16384x128 .i32) (harg2 : arg2.IsWhole) (arg3 : Memref sig .tc .vmem S64x16384 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x128 .f32) (harg16 : arg16.IsWhole) (arg17 : Memref sig .tc .vmem S4x65x128 .f32) (harg17 : arg17.IsWhole)
    (X2 : S1x16384x128.Idx → Elt F .i32) (X3 : S64x16384.Idx → Elt F .f32) (X4 : S64x64.Idx → Elt F .f32) (X5 : S64x1.Idx → Elt F .f32) (X6 : S64x64.Idx → Elt F .f32) (X7 : S64x1.Idx → Elt F .f32) (X8 : S64x1.Idx → Elt F .f32) (X9 : S64x1.Idx → Elt F .f32) (X10 : S64x1.Idx → Elt F .f32) (X11 : S64x1.Idx → Elt F .f32) (X12 : S64x1.Idx → Elt F .f32) (X13 : S64x1.Idx → Elt F .f32) (X14 : S64x1.Idx → Elt F .f32) (X15 : S64x1.Idx → Elt F .f32) (X16 : S64x128.Idx → Elt F .f32) (X17 : S4x65x128.Idx → Elt F .f32)
    (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17)
          ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare (finalOut (accLater i h2 X2 X3 X17) X4 X6 X5 X7 X8 X9 X10 X11 X12 X13 X14 X15) ∗ owns (c : Thread nD τ) arg17 fullShare (accLater i h2 X2 X3 X17)) -∗ K ⟨⟩))
      ⊢ wp frame (wpE (defs₀ (F := F)) 𝒱₀ c none) E
          (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encoder_kernel_eq_skeleton]
  unfold cc0__encoder_kernel_skel owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  subst hf2; subst hf3; subst hf4; subst hf5; subst hf6; subst hf7; subst hf8; subst hf9; subst hf10; subst hf11; subst hf12; subst hf13; subst hf14; subst hf15; subst hf16; subst hf17
  sl_exec
  sl_step
  iapply Hk
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact rfl
  isplitl [H16]
  · iexists _; isplitr; swap; · iexact H16
    ipureintro; rw [View.read_writes_full]; unfold body_last.sl.r_4 body_last.sl.r_5 body_last.sl.r_6 body_last.sl.r_7 body_last.sl.r_8 body_last.sl.r body_last.sl.r_1 body_last.sl.r_2 body_last.sl.r_3 body_last.sl.H17_1; (repeat rw [View.readAt_full]); rw [View.read_writes_cons_put (h := rfl), View.readAt_unit (h := rfl) (inb' := k0_off2_inb i h2)]; rfl
  · iexists _; isplitr; swap; · iexact H17
    ipureintro; unfold body_last.sl.H17_1; rw [View.read_writes_cons_put (h := rfl), View.readAt_full, View.readAt_full, View.readAt_unit (h := rfl) (inb' := k0_off2_inb i h2)]; rfl

end Cert.EncoderIdeal

end
-- ==== Proof.Layers.lean ====
module

public import proofs.«01_k».proof.Proof.ReferenceTerm
public import proofs.«01_k».proof.Proof.IdealBody

@[expose] public section

set_option maxRecDepth 16384

noncomputable section

namespace Cert.EncoderLayers

open Idealize.ShloMosaic

/-- The mean of 64 features. -/
def mean64 (f : Fin 64 → EReal) : EReal := Ideal.div (∑ r, f r) (Ideal.ofBits .f32 1115684864#32)

/-- A feature less the mean. -/
def centred (f : Fin 64 → EReal) (r : Fin 64) : EReal := f r - mean64 f

/-- Layer normalisation of 64 features, with weight `lw` and bias `lb`. -/
def normed (f lw lb : Fin 64 → EReal) (r : Fin 64) : EReal :=
  Ideal.div (centred f r) (Ideal.sqrt (mean64 (fun k => centred f k * centred f k) + Ideal.ofBits .f32 925353388#32)) * lw r + lb r

/-- One layer of the encoder on 64 features: layer normalisation, the linear map of `W` and `fb`, the positive part, and the
    affine map of `bw` and `bb` with the fixed scale. -/
def layer (f lw lb : Fin 64 → EReal) (W : Fin 64 → Fin 64 → EReal) (fb bw bb : Fin 64 → EReal) (o : Fin 64) : EReal :=
  Ideal.div (max (∑ k, normed f lw lb k * W o k + fb o) 0) (Ideal.sqrt (Ideal.ofBits .f32 1065353300#32)) * bw o + bb o

/-- The scale is not zero. -/
theorem scale_ne : Ideal.sqrt (Ideal.ofBits .f32 1065353300#32) ≠ 0 := by
  have e : Ideal.ofBits .f32 1065353300#32 = (((8388692 : ℝ) / 8388608 : ℝ) : EReal) := by
    simp [Ideal.ofBits, Ideal.ieee, -EReal.coe_mul]; norm_num
  rw [e]
  unfold Ideal.sqrt
  have h0 : ¬ ((8388692 : ℝ) / 8388608 : ℝ) < 0 := by norm_num
  show (if ((8388692 : ℝ) / 8388608 : ℝ) < 0 then (⊥ : EReal) else _) ≠ 0
  rw [if_neg h0]
  have h1 : Real.sqrt ((8388692 : ℝ) / 8388608) ≠ 0 := (Real.sqrt_pos.2 (by norm_num)).ne'
  exact fun h => h1 (EReal.coe_eq_zero.1 h)

/-- Scaling the weight or scaling the feature is the same. -/
theorem scale_swap (h w s : EReal) (hs : s ≠ 0) : h * Ideal.div w s = Ideal.div h s * w := by
  unfold Ideal.div
  rw [if_neg hs, if_neg hs, mul_comm w, mul_assoc]

/-- The kernel's spelling of a layer. -/
theorem layer_kernel (f lw lb : Fin 64 → EReal) (W : Fin 64 → Fin 64 → EReal) (fb bw bb : Fin 64 → EReal) (o : Fin 64) :
    max (∑ k, W o k * normed f lw lb k + fb o) 0 * Ideal.div (bw o) (Ideal.sqrt (Ideal.ofBits .f32 1065353300#32)) + bb o
      = layer f lw lb W fb bw bb o := by
  unfold layer
  rw [scale_swap _ _ _ scale_ne]
  exact congrArg (fun s => Ideal.div (max (s + fb o) 0) (Ideal.sqrt (Ideal.ofBits .f32 1065353300#32)) * bw o + bb o)
    (Finset.sum_congr rfl fun k _ => mul_comm _ _)

/-- A layer of equal features and equal weights. -/
theorem layer_congr {f lw lb fb bw bb f' lw' lb' fb' bw' bb' : Fin 64 → EReal} {W W' : Fin 64 → Fin 64 → EReal} (hf : ∀ k, f k = f' k)
    (hlw : ∀ k, lw k = lw' k) (hlb : ∀ k, lb k = lb' k) (hW : ∀ i k, W i k = W' i k) (hfb : ∀ k, fb k = fb' k) (hbw : ∀ k, bw k = bw' k)
    (hbb : ∀ k, bb k = bb' k) (o : Fin 64) : layer f lw lb W fb bw bb o = layer f' lw' lb' W' fb' bw' bb' o := by
  rw [funext hf, funext hlw, funext hlb, funext fun i => funext (hW i), funext hfb, funext hbw, funext hbb]

end Cert.EncoderLayers

namespace Cert.EncoderReference

open Cert.ReferenceIdeal Cert.ReferenceIdeal.Gen Cert.EncoderLayers Idealize.ShloMosaic

/-- The reference's layer normalisation at an entry. -/
theorem norm_at (h : FVec Ideal S128x64 .f32) (lw lb : FVec Ideal S64 .f32) (b : Fin 128) (r : Fin 64) :
    refNorm h lw lb (ix2 b r) = normed (fun k => h (ix2 b k)) (fun k => lw (ix1 k)) (fun k => lb (ix1 k)) r := by
  pointwise [refNorm, refRow, refCentred, refOver]
  rfl

/-- The reference's layer at an entry. -/
theorem layer_at (h : FVec Ideal S128x64 .f32) (lw lb : FVec Ideal S64 .f32) (W : FVec Ideal S64x64 .f32)
    (fb bw bb : FVec Ideal S64 .f32) (b : Fin 128) (o : Fin 64) :
    refLayer h lw lb W fb bw bb (ix2 b o) = layer (fun k => h (ix2 b k)) (fun k => lw (ix1 k)) (fun k => lb (ix1 k))
      (fun i k => W (ix2 i k)) (fun k => fb (ix1 k)) (fun k => bw (ix1 k)) (fun k => bb (ix1 k)) o := by
  pointwise [refLayer, refOver]
  simp only [norm_at]
  rfl

end Cert.EncoderReference

namespace Cert.EncoderIdeal

open Cert.KernelIdeal Cert.KernelIdeal.Gen Cert.EncoderLayers Idealize.ShloMosaic

/-- The kernel's first layer at an entry. -/
theorem stage1_at (A : Vec Ideal S4x65x128 .f32) (X4 : Vec Ideal S64x64 .f32) (X5 X8 X9 X12 X13 : Vec Ideal S64x1 .f32) (o : Fin 64) (b : Fin 128) :
    stage1 (F := Ideal) A X4 X5 X8 X9 X12 X13 (ix2 o b)
      = layer (fun k => k0_pay2 (F := Ideal) A (ix2 k b)) (fun k => X8 (ix2 k (0 : Fin 1))) (fun k => X9 (ix2 k (0 : Fin 1)))
          (fun i k => X4 (ix2 i k)) (fun k => X5 (ix2 k (0 : Fin 1))) (fun k => X12 (ix2 k (0 : Fin 1))) (fun k => X13 (ix2 k (0 : Fin 1))) o := by
  rw [← layer_kernel]
  pointwise [stage1, k0_pay9, k0_pay3, k0_pay4, k0_pay6, k0_pay7, k0_pay8, k0_pay5]
  rfl

/-- The kernel's result at an entry: the second layer on the first. -/
theorem finalOut_at (A : Vec Ideal S4x65x128 .f32) (X4 X6 : Vec Ideal S64x64 .f32) (X5 X7 X8 X9 X10 X11 X12 X13 X14 X15 : Vec Ideal S64x1 .f32)
    (o : Fin 64) (b : Fin 128) :
    finalOut (F := Ideal) A X4 X6 X5 X7 X8 X9 X10 X11 X12 X13 X14 X15 (ix2 o b)
      = layer (fun k => stage1 (F := Ideal) A X4 X5 X8 X9 X12 X13 (ix2 k b)) (fun k => X10 (ix2 k (0 : Fin 1))) (fun k => X11 (ix2 k (0 : Fin 1)))
          (fun i k => X6 (ix2 i k)) (fun k => X7 (ix2 k (0 : Fin 1))) (fun k => X14 (ix2 k (0 : Fin 1))) (fun k => X15 (ix2 k (0 : Fin 1))) o := by
  rw [← layer_kernel]
  pointwise [finalOut, k0_pay1, k0_pay10, k0_pay11, k0_pay12, k0_pay13, k0_pay14]
  rfl

end Cert.EncoderIdeal

end
-- ==== Proof.Payload.lean ====
module

public import proofs.«01_k».proof.Proof.Gen.KernelIdeal.Skeleton
public import Idealize.ShloMosaic.Lib.Pointwise

@[expose] public section

set_option maxRecDepth 16384

noncomputable section

namespace Cert.EncoderPayload

open Cert.KernelIdeal Cert.KernelIdeal.Gen
open Idealize.ShloMosaic

/-- The weight that vocabulary entry `v` has in row `r` of the product: the table's entry in the first 64 rows, with the
    padding entry 0 read as zero; one in the row of counts. -/
def wt (tT : Vec Ideal S64x100000 .f32) (r : Fin 65) (v : Fin 100000) : EReal :=
  if h : r.val < 64 then (if v.val = 0 then 0 else tT (ix2 (⟨r.val, h⟩ : Fin 64) v)) else 1

/-- What vocabulary entry `v` adds to row `r` of the sums of pass `q` and batch element `b`; zero past the vocabulary's end. -/
def term (xT : Vec Ideal S4x100000x128 .i32) (tT : Vec Ideal S64x100000 .f32) (q : Fin 4) (r : Fin 65) (b : Fin 128) (v : ℕ) : EReal :=
  if h : v < 100000 then wt tT r ⟨v, h⟩ * (((xT (ix3 q (⟨v, h⟩ : Fin 100000) b)).toInt : ℝ) : EReal) else 0

/-- The vocabulary index that the kernel computes for a block's column. -/
theorem col_word (n k : ℕ) : IntOp.addi (Scalar.muli (BitVec.ofNat 32 n) 16384#32) (BitVec.ofNat 32 k) = BitVec.ofNat 32 (n * 16384 + k) := by
  apply BitVec.eq_of_toNat_eq
  simp [IntOp.addi, Scalar.muli, IntOp.muli]

/-- A vocabulary index below 2³¹, compared with the vocabulary's size. -/
theorem lt_word (v : ℕ) (hv : v < 114688) : IntOp.cmpi CmpIPredicate.slt (BitVec.ofNat 32 v) 100000#32 = if v < 100000 then 1#1 else 0#1 := by
  have e : (BitVec.ofNat 32 v).slt 100000#32 = decide (v < 100000) := by
    rw [Bool.eq_iff_iff, decide_eq_true_iff, BitVec.slt_iff_toInt_lt, BitVec.toInt_eq_toNat_of_lt (by simp; omega)]
    simp
    omega
  by_cases h : v < 100000 <;> simp [IntOp.cmpi, e, h]

/-- A vocabulary index below 2³¹, compared with one. -/
theorem ge_word (v : ℕ) (hv : v < 114688) : IntOp.cmpi CmpIPredicate.sge (BitVec.ofNat 32 v) 1#32 = if 1 ≤ v then 1#1 else 0#1 := by
  have e : (1#32).sle (BitVec.ofNat 32 v) = decide (1 ≤ v) := by
    rw [Bool.eq_iff_iff, decide_eq_true_iff, BitVec.sle_iff_toInt_le, BitVec.toInt_eq_toNat_of_lt (x := BitVec.ofNat 32 v) (by simp; omega)]
    simp
    omega
  by_cases h : 1 ≤ v <;> simp [IntOp.cmpi, e, h]

/-- A block's contribution, one row and batch element: the sum of the entries' terms, whatever the block holds past the vocabulary's end. -/
theorem pay15_at (i : grid0.Coords) (n : ℕ) (hn : (i 0).val = n) (hn7 : n < 7) (T : Vec Ideal S64x16384 .f32) (X : Vec Ideal S1x16384x128 .i32)
    (xT : Vec Ideal S4x100000x128 .i32) (tT : Vec Ideal S64x100000 .f32) (q : Fin 4)
    (hT : ∀ (r : Fin 64) (k : Fin 16384) (h : n * 16384 + k.val < 100000), T (ix2 r k) = tT (ix2 r (⟨n * 16384 + k.val, h⟩ : Fin 100000)))
    (hX : ∀ (b : Fin 128) (k : Fin 16384) (h : n * 16384 + k.val < 100000), X (ix3 (0 : Fin 1) k b) = xT (ix3 q (⟨n * 16384 + k.val, h⟩ : Fin 100000) b))
    (r : Fin 65) (b : Fin 128) :
    k0_pay15 (F := Ideal) i T X (ix2 r b) = ∑ k : Fin 16384, term xT tT q r b (n * 16384 + k.val) := by
  pointwise [k0_pay15]
  refine Finset.sum_congr rfl fun k _ => ?_
  have hk := k.isLt
  rw [hn, col_word, lt_word _ (by omega), ge_word _ (by omega)]
  by_cases hv : n * 16384 + k.val < 100000
  · have hx := hX b k hv
    unfold term wt
    rw [dif_pos hv]
    refine congrArg₂ (· * ·) ?_ (congrArg (fun w : BitVec 32 => ((w.toInt : ℝ) : EReal)) hx)
    by_cases hr : r.val < 64
    · rw [dif_pos hr, dif_pos hr]
      by_cases h0 : n * 16384 + k.val = 0
      · rw [if_pos h0]; simp [h0, Scalar.select, IntOp.andi]
      · rw [if_neg h0]
        have h1 : 1 ≤ n * 16384 + k.val := by omega
        rw [if_pos hv, if_pos h1]
        exact hT ⟨r.val, hr⟩ k hv
    · rw [dif_neg hr, dif_neg hr, if_pos hv]; rfl
  · unfold term
    rw [dif_neg hv, if_neg hv]
    have hz : ∀ x : EReal, (0 : EReal) * x = 0 := zero_mul
    by_cases hr : r.val < 64
    · rw [dif_pos hr]
      have h1 : 1 ≤ n * 16384 + k.val := by omega
      rw [if_pos h1]
      exact hz _
    · rw [dif_neg hr]
      exact hz _

end Cert.EncoderPayload

end
-- ==== Proof.Steps.lean ====
module

public import proofs.«01_k».proof.Proof.IdealBody
public import proofs.«01_k».proof.Proof.Payload

@[expose] public section

set_option maxRecDepth 16384

noncomputable section

namespace Cert.EncoderIdeal

open Cert.KernelIdeal Cert.KernelIdeal.Gen Cert.EncoderPayload
open Idealize.ShloMosaic

/-- The first store's offset is the point's pass. -/
theorem off1_eq (i : grid0.Coords) : k0_off1 i = ![(i 1).val, 0, 0] := by
  have h : (i 1).val < 4 := (i 1).isLt
  have e : (Scalar.indexCast (BitVec.ofNat 32 (i 1).val)).toNat = (i 1).val := by
    simp [Scalar.indexCast]; omega
  unfold k0_off1
  simp only [e]

/-- The second store's offset is the point's pass. -/
theorem off2_eq (i : grid0.Coords) : k0_off2 i = ![(i 1).val, 0, 0] := off1_eq i

/-- A slab stored over the accumulator, read at an index. -/
theorem put_at (A : Vec Ideal S4x65x128 .f32) (off : Fin 3 → ℕ) (p : ℕ) (ho : off = ![p, 0, 0]) (w : Vec Ideal S1x65x128 .f32) (q : Fin 4) (r : Fin 65) (b : Fin 128) :
    VecWindow.put (s := S4x65x128) A off S1x65x128.size w (ix3 q r b) = if q.val = p then w (ix3 (0 : Fin 1) r b) else A (ix3 q r b) := by
  subst ho
  unfold VecWindow.put
  have hr := r.isLt
  have hb := b.isLt
  split
  · rename_i h
    have h0 := h 0
    have hq : q.val = p := by
      change p ≤ q.val ∧ q.val < p + 1 at h0
      omega
    rw [if_pos hq]
    congr 1
    funext a
    apply Fin.ext
    rw [Rect.unitLocal_val]
    fin_cases a
    · change q.val - p = 0
      omega
    · rfl
    · rfl
  · rename_i h
    have hq : ¬ q.val = p := by
      intro hq
      apply h
      intro a
      fin_cases a
      · change p ≤ q.val ∧ q.val < p + 1
        omega
      · change 0 ≤ r.val ∧ r.val < 0 + 65
        omega
      · change 0 ≤ b.val ∧ b.val < 0 + 128
        omega
    rw [if_neg hq]

/-- The slab of one pass, read out of the accumulator. -/
theorem window_at (A : Vec Ideal S4x65x128 .f32) (off : Fin 3 → ℕ) (q : Fin 4) (ho : off = ![q.val, 0, 0])
    (inb : ∀ a, off a + S1x65x128.size a ≤ S4x65x128.size a) (r : Fin 65) (b : Fin 128) :
    VecWindow.window (s := S4x65x128) A off S1x65x128.size inb (ix3 (0 : Fin 1) r b) = A (ix3 q r b) := by
  subst ho
  unfold VecWindow.window
  congr 1
  funext a
  apply Fin.ext
  fin_cases a
  · change q.val + 0 * 1 = q.val; omega
  · change 0 + 1 * r.val = r.val; omega
  · change 0 + 1 * b.val = b.val; omega

/-- What the first store writes: the block's contribution. -/
theorem pay16_at (i : grid0.Coords) (T : Vec Ideal S64x16384 .f32) (X : Vec Ideal S1x16384x128 .i32) (r : Fin 65) (b : Fin 128) :
    k0_pay16 (F := Ideal) i T X (ix3 (0 : Fin 1) r b) = k0_pay15 i T X (ix2 r b) := by
  pointwise [k0_pay16]

/-- What the second store writes: the block's contribution added to what was held. -/
theorem pay17_at (i : grid0.Coords) (T : Vec Ideal S64x16384 .f32) (X : Vec Ideal S1x16384x128 .i32) (A : Vec Ideal S1x65x128 .f32) (r : Fin 65) (b : Fin 128) :
    k0_pay17 (F := Ideal) i T X A (ix3 (0 : Fin 1) r b) = (A (ix3 (0 : Fin 1) r b) + k0_pay15 i T X (ix2 r b) : EReal) := by
  pointwise [k0_pay17]

/-- The vocabulary blocks that pass `q` has had before point `t`. -/
def done (t : ℕ) (q : Fin 4) : ℕ := (t + 3 - q.val) / 4

/-- One vocabulary block's contribution to pass `q`. -/
def blockSum (xT : Vec Ideal S4x100000x128 .i32) (tT : Vec Ideal S64x100000 .f32) (q : Fin 4) (r : Fin 65) (b : Fin 128) (j : ℕ) : EReal :=
  ∑ k : Fin 16384, term xT tT q r b (j * 16384 + k.val)

/-- The accumulator before point `t`: every pass that has begun holds the sum over the blocks it has had. -/
def Inv (xT : Vec Ideal S4x100000x128 .i32) (tT : Vec Ideal S64x100000 .f32) (t : ℕ) (A : Vec Ideal S4x65x128 .f32) : Prop :=
  ∀ (q : Fin 4) (r : Fin 65) (b : Fin 128), 0 < done t q →
    A (ix3 q r b) = ∑ j ∈ Finset.range (done t q), blockSum xT tT q r b j

variable {xT : Vec Ideal S4x100000x128 .i32} {tT : Vec Ideal S64x100000 .f32}

/-- The blocks point `i` reads are the arrays' block, on the columns inside the vocabulary. -/
structure Reads (xT : Vec Ideal S4x100000x128 .i32) (tT : Vec Ideal S64x100000 .f32) (i : grid0.Coords)
    (X : Vec Ideal S1x16384x128 .i32) (T : Vec Ideal S64x16384 .f32) : Prop where
  tab : ∀ (r : Fin 64) (k : Fin 16384) (h : (i 0).val * 16384 + k.val < 100000),
    T (ix2 r k) = tT (ix2 r ⟨(i 0).val * 16384 + k.val, h⟩)
  inp : ∀ (q : Fin 4) (_ : q.val = (i 1).val) (k : Fin 16384) (b : Fin 128) (h : (i 0).val * 16384 + k.val < 100000),
    X (ix3 (0 : Fin 1) k b) = xT (ix3 q ⟨(i 0).val * 16384 + k.val, h⟩ b)

/-- The contribution a point computes is its block's. -/
theorem pay15_block {i : grid0.Coords} {X : Vec Ideal S1x16384x128 .i32} {T : Vec Ideal S64x16384 .f32} (h : Reads xT tT i X T)
    (q : Fin 4) (hq : q.val = (i 1).val) (r : Fin 65) (b : Fin 128) :
    k0_pay15 (F := Ideal) i T X (ix2 r b) = blockSum xT tT q r b (i 0).val :=
  pay15_at i (i 0).val rfl (i 0).isLt T X xT tT q (fun r k hk => h.tab r k hk) (fun b k hk => h.inp q hq k b hk) r b

/-- A pass's first block leaves the accumulator as it should be. -/
theorem inv_first {i : grid0.Coords} {X : Vec Ideal S1x16384x128 .i32} {T : Vec Ideal S64x16384 .f32} (h : Reads xT tT i X T)
    (t : ℕ) (ht0 : (i 0).val = t / 4) (ht1 : (i 1).val = t % 4) (hf : t < 4) (A : Vec Ideal S4x65x128 .f32) (hA : Inv xT tT t A) :
    Inv xT tT (t + 1) (accFirst i X T A) := by
  intro q r b hd
  unfold accFirst
  rw [put_at A _ _ (off1_eq i)]
  have hql := q.isLt
  split
  · rename_i hq
    have e : done (t + 1) q = 1 := by unfold done; omega
    have e0 : (i 0).val = 0 := by omega
    rw [pay16_at, pay15_block h q hq, e, e0, Finset.sum_range_one]
  · rename_i hq
    have e : done (t + 1) q = done t q := by unfold done; omega
    rw [e] at hd ⊢
    exact hA q r b hd

/-- A pass's later block leaves the accumulator as it should be. -/
theorem inv_later {i : grid0.Coords} (h2 : k0_cond2 i = 1#1) {X : Vec Ideal S1x16384x128 .i32} {T : Vec Ideal S64x16384 .f32} (h : Reads xT tT i X T)
    (t : ℕ) (ht0 : (i 0).val = t / 4) (ht1 : (i 1).val = t % 4) (hf : 4 ≤ t) (A : Vec Ideal S4x65x128 .f32) (hA : Inv xT tT t A) :
    Inv xT tT (t + 1) (accLater i h2 X T A) := by
  intro q r b hd
  unfold accLater
  have hql := q.isLt
  by_cases hq : q.val = (i 1).val
  · have e : done (t + 1) q = done t q + 1 := by unfold done; omega
    have e0 : (i 0).val = done t q := by unfold done; omega
    rw [put_at A _ _ (off2_eq i), if_pos hq, pay17_at, pay15_block h q hq, e, Finset.sum_range_succ, e0,
      ← hA q r b (by unfold done; omega)]
    rw [window_at A _ q (by rw [off2_eq, hq])]
  · have e : done (t + 1) q = done t q := by unfold done; omega
    rw [put_at A _ _ (off2_eq i), if_neg hq, e]
    rw [e] at hd
    exact hA q r b hd

end Cert.EncoderIdeal

end
-- ==== Proof.Pooled.lean ====
module

public import proofs.«01_k».proof.Proof.ReferenceTable
public import proofs.«01_k».proof.Proof.Layers
public import proofs.«01_k».proof.Proof.Steps

@[expose] public section

set_option maxRecDepth 16384

noncomputable section

namespace Cert.EncoderPooled

open Cert.EncoderPayload Cert.EncoderReference Idealize.ShloMosaic

/-- A sum over `n` blocks of `w` entries is the sum over the entries. -/
theorem sum_blocks (f : ℕ → EReal) (w n : ℕ) : ∑ j ∈ Finset.range n, ∑ k ∈ Finset.range w, f (j * w + k) = ∑ v ∈ Finset.range (n * w), f v := by
  induction n with
  | zero => simp
  | succ n ih => rw [Finset.sum_range_succ, ih, Nat.succ_mul, Finset.sum_range_add]

/-- The seven blocks' sums together are the sum over the vocabulary. -/
theorem sum_vocab (xT : Vec Ideal Cert.KernelIdeal.S4x100000x128 .i32) (tT : Vec Ideal Cert.KernelIdeal.S64x100000 .f32) (q : Fin 4) (r : Fin 65) (b : Fin 128) :
    ∑ j ∈ Finset.range 7, Cert.EncoderIdeal.blockSum xT tT q r b j
      = ∑ v : Fin 100000, wt tT r v * (((xT (ix3 q v b)).toInt : ℝ) : EReal) := by
  have e : ∀ j, Cert.EncoderIdeal.blockSum xT tT q r b j = ∑ k ∈ Finset.range 16384, term xT tT q r b (j * 16384 + k) := fun j =>
    (Finset.sum_range fun k => term xT tT q r b (j * 16384 + k)).symm
  simp only [e]
  rw [sum_blocks, show 7 * 16384 = 100000 + 14688 from rfl, Finset.sum_range_add]
  rw [Finset.sum_eq_zero (s := Finset.range 14688) (fun k _ => dif_neg (by omega)), add_zero, Finset.sum_range]
  exact Finset.sum_congr rfl fun v _ => dif_pos v.isLt

/-- A mask word that is 0 or 1, as the reference's float of its comparison with 1. -/
theorem bit_eq (w : BitVec 32) (h : w = 0#32 ∨ w = 1#32) :
    FloatOps.uitofp (F := Ideal) FTy.f32 (IntOp.cmpi CmpIPredicate.eq w 1#32) = (((w.toInt : ℤ) : ℝ) : EReal) := by
  have u : ∀ b : BitVec 1, FloatOps.uitofp (F := Ideal) FTy.f32 b = (((b.toNat : ℕ) : ℝ) : EReal) := fun _ => rfl
  rcases h with h | h <;> subst h <;> simp [IntOp.cmpi, u]

/-- The question's pooled value of the reference, for mask words that are 0 or 1. -/
theorem pooled_at (x : IVec Cert.ReferenceIdeal.S128x4x100000 32) (t : FVec Ideal Cert.ReferenceIdeal.S100000x64 .f32)
    (h01 : ∀ b q v, x (ix3 (b : Fin 128) (q : Fin 4) (v : Fin 100000)) = 0#32 ∨ x (ix3 b q v) = 1#32) (b : Fin 128) (q : Fin 4) (r : Fin 64) :
    refPooled x t (ix3 b q r) =
      if 0 < ∑ v : Fin 100000, (((x (ix3 b q v)).toInt : ℝ) : EReal) then
        Ideal.div (∑ v : Fin 100000, (((x (ix3 b q v)).toInt : ℝ) : EReal) * (if v.val = 0 then 0 else t (ix2 v r)))
          (max (∑ v : Fin 100000, (((x (ix3 b q v)).toInt : ℝ) : EReal)) 1)
      else 0 := by
  have z : (id (constant (F := Ideal) Cert.ReferenceIdeal.S_ FTy.f32 0#32)) ix0 = (0 : EReal) := by
    show Ideal.ofBits .f32 0x00000000#32 = 0
    exact Ideal.ofBits_zero .f32
  pointwise [refPooled, refSums, refCount, refMask]
  simp only [bit_eq _ (h01 _ _ _), table_at]
  rw [z]

/-- The pattern of a quarter. -/
theorem quarter_bits : Ideal.ofBits .f32 1048576000#32 = (((1 : ℝ) / 4 : ℝ) : EReal) := by
  simp [Ideal.ofBits, Ideal.ieee, -EReal.coe_mul]; norm_num

/-- The pattern of four. -/
theorem four_bits : Ideal.ofBits .f32 1082130432#32 = ((4 : ℝ) : EReal) := by
  simp [Ideal.ofBits, Ideal.ieee, -EReal.coe_mul]; norm_num

/-- Taking a quarter and dividing by four are the same. -/
theorem quarter (x : EReal) : x * Ideal.ofBits .f32 1048576000#32 = Ideal.div x (Ideal.ofBits .f32 1082130432#32) := by
  rw [quarter_bits, four_bits]
  unfold Ideal.div
  rw [if_neg (by norm_num), ← EReal.coe_inv]
  norm_num

/-- The kernel's mean over the questions is the reference's, transposed. -/
theorem pay2_eq (A : Vec Ideal Cert.KernelIdeal.S4x65x128 .f32) (x : IVec Cert.ReferenceIdeal.S128x4x100000 32) (t : FVec Ideal Cert.ReferenceIdeal.S100000x64 .f32)
    (xT : Vec Ideal Cert.KernelIdeal.S4x100000x128 .i32) (tT : Vec Ideal Cert.KernelIdeal.S64x100000 .f32)
    (h01 : ∀ b q v, x (ix3 (b : Fin 128) (q : Fin 4) (v : Fin 100000)) = 0#32 ∨ x (ix3 b q v) = 1#32)
    (hx : ∀ q v b, xT (ix3 (q : Fin 4) (v : Fin 100000) (b : Fin 128)) = x (ix3 b q v))
    (ht : ∀ r v, tT (ix2 (r : Fin 64) (v : Fin 100000)) = t (ix2 v r))
    (hA : ∀ q r b, A (ix3 (q : Fin 4) (r : Fin 65) (b : Fin 128)) = ∑ j ∈ Finset.range 7, Cert.EncoderIdeal.blockSum xT tT q r b j)
    (r : Fin 64) (b : Fin 128) :
    Cert.KernelIdeal.Gen.k0_pay2 (F := Ideal) A (ix2 r b) = refMean x t (ix2 b r) := by
  have hc : ∀ q, A (ix3 (q : Fin 4) (64 : Fin 65) (b : Fin 128)) = ∑ v : Fin 100000, (((x (ix3 b q v)).toInt : ℝ) : EReal) := fun q => by
    rw [hA, sum_vocab]
    refine Finset.sum_congr rfl fun v _ => ?_
    rw [hx]
    exact one_mul _
  have hs : ∀ q (h : r.val < 65), A (ix3 (q : Fin 4) (⟨r.val, h⟩ : Fin 65) (b : Fin 128))
      = ∑ v : Fin 100000, (((x (ix3 b q v)).toInt : ℝ) : EReal) * (if v.val = 0 then 0 else t (ix2 v r)) := fun q h => by
    rw [hA, sum_vocab]
    refine Finset.sum_congr rfl fun v _ => ?_
    rw [hx, mul_comm]
    refine congrArg (fun w : EReal => _ * w) ?_
    unfold wt
    rw [dif_pos r.isLt]
    exact congrArg (fun w : EReal => if v.val = 0 then 0 else w) (ht r v)
  have hp : ∀ q, (if 0 < A (ix3 (q : Fin 4) (64 : Fin 65) (b : Fin 128)) then
      Ideal.div (A (ix3 q (⟨r.val, by omega⟩ : Fin 65) b)) (max (A (ix3 q 64 b)) 1) else 0) = refPooled x t (ix3 b q r) := fun q => by
    rw [pooled_at x t h01, hc, hs]
  pointwise [Cert.KernelIdeal.Gen.k0_pay2, refMean]
  rw [hp, hp, hp, hp, quarter, Fin.sum_univ_four]

end Cert.EncoderPooled

end
-- ==== Proof.Reads.lean ====
module

public import proofs.«01_k».proof.Proof.Steps
public import Idealize.ShloMosaic.Lib.Pipeline.ValueKit

@[expose] public section

set_option maxRecDepth 16384

noncomputable section

namespace Cert.EncoderIdeal

open Cert.KernelIdeal Cert.KernelIdeal.Gen Cert.EncoderPayload
open Idealize.ShloMosaic Idealize.ShloMosaic.TcCoe Idealize.SL.Sem

variable (m : (ℓ : Loc nD τ sig) → Buf (Elt Ideal) ℓ)

/-- The point's coordinates: its vocabulary block and its pass. -/
theorem coords_val : ∀ t : Fin grid0.N, (grid0.coords t 0).val = t.val / 4 ∧ (grid0.coords t 1).val = t.val % 4 := by
  decide +kernel

/-- The two clipped windows' block indices and the sizes of their blocks' parts inside the array. -/
theorem idx : ∀ t : Fin grid0.N, win0_0.index t = ![t.val % 4, t.val / 4, 0] ∧ win0_1.index t = ![0, t.val / 4]
    ∧ win0_0.xsize (grid0.coords t) = ![1, if t.val / 4 = 6 then 1696 else 16384, 128]
    ∧ win0_1.xsize (grid0.coords t) = ![64, if t.val / 4 = 6 then 1696 else 16384] := by
  decide +kernel

/-- Which points run which of the body's three parts. -/
theorem conds : ∀ t : Fin grid0.N, (k0_cond1 (grid0.coords t) = 1#1 ↔ t.val < 4) ∧ (k0_cond2 (grid0.coords t) = 1#1 ↔ 4 ≤ t.val)
    ∧ (k0_cond3 (grid0.coords t) = 1#1 ↔ t.val = 27) := by
  decide +kernel

/-- The input block at a point as the body finds it: the array's on the rows inside it, `d` past its end. -/
def xBlock (c : Dev nD) (t : Fin cfg0.N) (d : Vec Ideal S1x16384x128 .i32) : Vec Ideal S1x16384x128 .i32 :=
  win0_0.fill (grid0.coords t) d (iblk m c 0 t)

/-- The table block at a point, likewise. -/
def tBlock (c : Dev nD) (t : Fin cfg0.N) (d : Vec Ideal S64x16384 .f32) : Vec Ideal S64x16384 .f32 :=
  win0_1.fill (grid0.coords t) d (iblk m c 1 t)

/-- The host's transposed inputs, as the region finds them. -/
abbrev xArr (c : Dev nD) : Vec Ideal S4x100000x128 .i32 := V m c main_v0
/-- The host's transposed table, as the region finds it. -/
abbrev tArr (c : Dev nD) : Vec Ideal S64x100000 .f32 := V m c main_v1

/-- The table block at an entry inside the array. -/
theorem tBlock_at (c : Dev nD) (t : Fin cfg0.N) (d : Vec Ideal S64x16384 .f32) (r : Fin 64) (k : Fin 16384)
    (h : t.val / 4 * 16384 + k.val < 100000) : tBlock m c t d (ix2 r k) = tArr m c (ix2 r ⟨t.val / 4 * 16384 + k.val, h⟩) := by
  have hk := k.isLt
  have hr := r.isLt
  have hm : win0_1.moved (grid0.coords t) (ix2 r k) = true := by
    rw [Pipeline.Window.moved_iff]
    rw [(idx t).2.2.2]
    intro a
    fin_cases a
    · exact hr
    · change k.val < if t.val / 4 = 6 then 1696 else 16384
      split <;> omega
  unfold tBlock Pipeline.Window.fill
  rw [dif_pos hm]
  blk_ext [iblk, idx t]

/-- The input block at an entry inside the array. -/
theorem xBlock_at (c : Dev nD) (t : Fin cfg0.N) (d : Vec Ideal S1x16384x128 .i32) (q : Fin 4) (hq : q.val = t.val % 4) (k : Fin 16384) (b : Fin 128)
    (h : t.val / 4 * 16384 + k.val < 100000) : xBlock m c t d (ix3 (0 : Fin 1) k b) = xArr m c (ix3 q ⟨t.val / 4 * 16384 + k.val, h⟩ b) := by
  have hk := k.isLt
  have hb := b.isLt
  have hm : win0_0.moved (grid0.coords t) (ix3 (0 : Fin 1) k b) = true := by
    rw [Pipeline.Window.moved_iff]
    rw [(idx t).2.2.1]
    intro a
    fin_cases a
    · exact Nat.zero_lt_one
    · change k.val < if t.val / 4 = 6 then 1696 else 16384
      split <;> omega
    · exact hb
  unfold xBlock Pipeline.Window.fill
  rw [dif_pos hm]
  blk_ext [iblk, idx t]

/-- The blocks a point reads are the arrays', on the columns inside the vocabulary. -/
theorem reads (c : Dev nD) (t : Fin cfg0.N) (d0 : Vec Ideal S1x16384x128 .i32) (d1 : Vec Ideal S64x16384 .f32) :
    Reads (xArr m c) (tArr m c) (grid0.coords t) (xBlock m c t d0) (tBlock m c t d1) where
  tab r k h := by
    have e := (coords_val t).1
    simp only [e] at h ⊢
    exact tBlock_at m c t d1 r k h
  inp q hq k b h := by
    have e := (coords_val t).1
    rw [(coords_val t).2] at hq
    simp only [e] at h ⊢
    exact xBlock_at m c t d0 q hq k b h

end Cert.EncoderIdeal

end
-- ==== Proof.IdealData.lean ====
module

public import proofs.«01_k».proof.Proof.Reads
public import Idealize.ShloMosaic.Lib.Pipeline.FrameBody

@[expose] public section

set_option maxRecDepth 16384

noncomputable section

namespace Cert.EncoderIdeal

open Cert.KernelIdeal Cert.KernelIdeal.Gen Cert.EncoderPayload
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-! ## The small arrays: each window's block is its whole array -/

/-- The block index of every window over a small array is zero at every point. -/
theorem idxW : ∀ t : Fin grid0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] := by
  decide +kernel

/-- Window 2's array as the region finds it. -/
abbrev arr2 (c : Dev nD) : Vec Ideal S64x64 .f32 := V m c main_arg2

/-- Window 2 is one block, the whole array, at every point. -/
theorem iblk2 (c : Dev nD) (t : Fin cfg0.N) : iblk m c 2 t = arr2 m c := by
  blk_ext! [iblk, (idxW t).1]

/-- Window 3's array as the region finds it. -/
abbrev arr3 (c : Dev nD) : Vec Ideal S64x1 .f32 := V m c main_v2

/-- Window 3 is one block, the whole array, at every point. -/
theorem iblk3 (c : Dev nD) (t : Fin cfg0.N) : iblk m c 3 t = arr3 m c := by
  blk_ext! [iblk, (idxW t).2.1]

/-- Window 4's array as the region finds it. -/
abbrev arr4 (c : Dev nD) : Vec Ideal S64x64 .f32 := V m c main_arg4

/-- Window 4 is one block, the whole array, at every point. -/
theorem iblk4 (c : Dev nD) (t : Fin cfg0.N) : iblk m c 4 t = arr4 m c := by
  blk_ext! [iblk, (idxW t).2.2.1]

/-- Window 5's array as the region finds it. -/
abbrev arr5 (c : Dev nD) : Vec Ideal S64x1 .f32 := V m c main_v3

/-- Window 5 is one block, the whole array, at every point. -/
theorem iblk5 (c : Dev nD) (t : Fin cfg0.N) : iblk m c 5 t = arr5 m c := by
  blk_ext! [iblk, (idxW t).2.2.2.1]

/-- Window 6's array as the region finds it. -/
abbrev arr6 (c : Dev nD) : Vec Ideal S64x1 .f32 := V m c main_v4

/-- Window 6 is one block, the whole array, at every point. -/
theorem iblk6 (c : Dev nD) (t : Fin cfg0.N) : iblk m c 6 t = arr6 m c := by
  blk_ext! [iblk, (idxW t).2.2.2.2.1]

/-- Window 7's array as the region finds it. -/
abbrev arr7 (c : Dev nD) : Vec Ideal S64x1 .f32 := V m c main_v5

/-- Window 7 is one block, the whole array, at every point. -/
theorem iblk7 (c : Dev nD) (t : Fin cfg0.N) : iblk m c 7 t = arr7 m c := by
  blk_ext! [iblk, (idxW t).2.2.2.2.2.1]

/-- Window 8's array as the region finds it. -/
abbrev arr8 (c : Dev nD) : Vec Ideal S64x1 .f32 := V m c main_v6

/-- Window 8 is one block, the whole array, at every point. -/
theorem iblk8 (c : Dev nD) (t : Fin cfg0.N) : iblk m c 8 t = arr8 m c := by
  blk_ext! [iblk, (idxW t).2.2.2.2.2.2.1]

/-- Window 9's array as the region finds it. -/
abbrev arr9 (c : Dev nD) : Vec Ideal S64x1 .f32 := V m c main_v7

/-- Window 9 is one block, the whole array, at every point. -/
theorem iblk9 (c : Dev nD) (t : Fin cfg0.N) : iblk m c 9 t = arr9 m c := by
  blk_ext! [iblk, (idxW t).2.2.2.2.2.2.2.1]

/-- Window 10's array as the region finds it. -/
abbrev arr10 (c : Dev nD) : Vec Ideal S64x1 .f32 := V m c main_v8

/-- Window 10 is one block, the whole array, at every point. -/
theorem iblk10 (c : Dev nD) (t : Fin cfg0.N) : iblk m c 10 t = arr10 m c := by
  blk_ext! [iblk, (idxW t).2.2.2.2.2.2.2.2.1]

/-- Window 11's array as the region finds it. -/
abbrev arr11 (c : Dev nD) : Vec Ideal S64x1 .f32 := V m c main_v9

/-- Window 11 is one block, the whole array, at every point. -/
theorem iblk11 (c : Dev nD) (t : Fin cfg0.N) : iblk m c 11 t = arr11 m c := by
  blk_ext! [iblk, (idxW t).2.2.2.2.2.2.2.2.2.1]

/-- Window 12's array as the region finds it. -/
abbrev arr12 (c : Dev nD) : Vec Ideal S64x1 .f32 := V m c main_v10

/-- Window 12 is one block, the whole array, at every point. -/
theorem iblk12 (c : Dev nD) (t : Fin cfg0.N) : iblk m c 12 t = arr12 m c := by
  blk_ext! [iblk, (idxW t).2.2.2.2.2.2.2.2.2.2.1]

/-- Window 13's array as the region finds it. -/
abbrev arr13 (c : Dev nD) : Vec Ideal S64x1 .f32 := V m c main_v11

/-- Window 13 is one block, the whole array, at every point. -/
theorem iblk13 (c : Dev nD) (t : Fin cfg0.N) : iblk m c 13 t = arr13 m c := by
  blk_ext! [iblk, (idxW t).2.2.2.2.2.2.2.2.2.2.2.1]

/-! ## The proof data -/

/-- The accumulator after the whole grid: every pass's sum over the seven vocabulary blocks. -/
def fullAcc (c : Dev nD) : Vec Ideal S4x65x128 .f32 :=
  fun y => ∑ j ∈ Finset.range 7, blockSum (xArr m c) (tArr m c) (y 0) (y 1) (y 2) j

/-- After the last point the accumulator holds all seven blocks' sums. -/
theorem fullAcc_of_inv (c : Dev nD) (A : Vec Ideal S4x65x128 .f32) (h : Inv (xArr m c) (tArr m c) 28 A) : A = fullAcc m c := by
  funext y
  idx_vars y
  have hq := y0.isLt
  have e : done 28 y0 = 7 := by unfold done; omega
  have := h y0 y1 y2 (by unfold done; omega)
  rw [e] at this
  exact this

/-- What the last point stores: the encoder's result of the full sums. -/
def result (c : Dev nD) : Vec Ideal S64x128 .f32 :=
  finalOut (fullAcc m c) (arr2 m c) (arr4 m c) (arr3 m c) (arr5 m c) (arr6 m c) (arr7 m c) (arr8 m c) (arr9 m c) (arr10 m c) (arr11 m c) (arr12 m c) (arr13 m c)

/-- The accumulator's contents before point `t`: the sums of the blocks each pass has had. -/
def accHeld (c : Dev nD) (t : ℕ) : sProp 𝕄 :=
  iprop(∃ A : Vec Ideal S4x65x128 .f32, ⌜Inv (xArr m c) (tArr m c) t A⌝ ∗ owns (c : Thread nD τ) (Memref.whole cc0_scratch0) fullShare A)

/-- What the run says of the contents: the two clipped windows hold their blocks, the small ones their arrays, the result's
    buffer after the last point the encoder's result; the accumulator the sums so far. -/
def dats (_ : Fin 1) (c : Dev nD) : Dat τ (Elt Ideal) Unit ℕ (UR sig nD τ) ℕ cfg0 c where
  A w := V m c (Pipeline.arrRef spec0 w)
  after w t := match w with
    | ⟨0, _⟩ => xBlock m c t (fun _ => 0#32)
    | ⟨1, _⟩ => tBlock m c t (fun _ => (0 : EReal))
    | ⟨2, _⟩ => arr2 m c
    | ⟨3, _⟩ => arr3 m c
    | ⟨4, _⟩ => arr4 m c
    | ⟨5, _⟩ => arr5 m c
    | ⟨6, _⟩ => arr6 m c
    | ⟨7, _⟩ => arr7 m c
    | ⟨8, _⟩ => arr8 m c
    | ⟨9, _⟩ => arr9 m c
    | ⟨10, _⟩ => arr10 m c
    | ⟨11, _⟩ => arr11 m c
    | ⟨12, _⟩ => arr12 m c
    | ⟨13, _⟩ => arr13 m c
    | ⟨14, _⟩ => result m c
  Φ t := iprop(accHeld m c t.val ∗ ∃ r, prngReg c r)
  q _ := fullShare
  owed _ := 0

/-- The body finds the input block with any contents past the array's end. -/
theorem before0 (c : Dev nD) (t : Fin cfg0.N) (d) : (dats m 0 c).before 0 t d = xBlock m c t d := by
  unfold Dat.before
  rw [if_pos (fetch0_0 t)]
  rfl

/-- Points that read the same table block clip it alike. -/
theorem clip1 : ∀ t t' : Fin grid0.N, win0_1.index t = win0_1.index t' → win0_1.clip (grid0.coords t) = win0_1.clip (grid0.coords t') := by
  decide +kernel

/-- The body finds the table block with any contents past the array's end. -/
theorem before1 (c : Dev nD) (t : Fin cfg0.N) (d) : (dats m 0 c).before 1 t d = tBlock m c t d :=
  ((dats m 0 c).before_in_eq_fetched 1 rfl (fun _ => rfl) clip1
    (fun t => (Window.cut_fill (w := win0_1) (grid0.coords t) _ (iblk m c 1 t))) t d).trans rfl

/-- The body finds window 2's whole array at every point. -/
theorem before2 (c : Dev nD) (t : Fin cfg0.N) (d) : (dats m 0 c).before 2 t d = arr2 m c :=
  (before0_2_of m (dats m 0 c) rfl (fun t => (iblk2 m c t).symm) t d).trans (iblk2 m c t)

/-- The body finds window 3's whole array at every point. -/
theorem before3 (c : Dev nD) (t : Fin cfg0.N) (d) : (dats m 0 c).before 3 t d = arr3 m c :=
  (before0_3_of m (dats m 0 c) rfl (fun t => (iblk3 m c t).symm) t d).trans (iblk3 m c t)

/-- The body finds window 4's whole array at every point. -/
theorem before4 (c : Dev nD) (t : Fin cfg0.N) (d) : (dats m 0 c).before 4 t d = arr4 m c :=
  (before0_4_of m (dats m 0 c) rfl (fun t => (iblk4 m c t).symm) t d).trans (iblk4 m c t)

/-- The body finds window 5's whole array at every point. -/
theorem before5 (c : Dev nD) (t : Fin cfg0.N) (d) : (dats m 0 c).before 5 t d = arr5 m c :=
  (before0_5_of m (dats m 0 c) rfl (fun t => (iblk5 m c t).symm) t d).trans (iblk5 m c t)

/-- The body finds window 6's whole array at every point. -/
theorem before6 (c : Dev nD) (t : Fin cfg0.N) (d) : (dats m 0 c).before 6 t d = arr6 m c :=
  (before0_6_of m (dats m 0 c) rfl (fun t => (iblk6 m c t).symm) t d).trans (iblk6 m c t)

/-- The body finds window 7's whole array at every point. -/
theorem before7 (c : Dev nD) (t : Fin cfg0.N) (d) : (dats m 0 c).before 7 t d = arr7 m c :=
  (before0_7_of m (dats m 0 c) rfl (fun t => (iblk7 m c t).symm) t d).trans (iblk7 m c t)

/-- The body finds window 8's whole array at every point. -/
theorem before8 (c : Dev nD) (t : Fin cfg0.N) (d) : (dats m 0 c).before 8 t d = arr8 m c :=
  (before0_8_of m (dats m 0 c) rfl (fun t => (iblk8 m c t).symm) t d).trans (iblk8 m c t)

/-- The body finds window 9's whole array at every point. -/
theorem before9 (c : Dev nD) (t : Fin cfg0.N) (d) : (dats m 0 c).before 9 t d = arr9 m c :=
  (before0_9_of m (dats m 0 c) rfl (fun t => (iblk9 m c t).symm) t d).trans (iblk9 m c t)

/-- The body finds window 10's whole array at every point. -/
theorem before10 (c : Dev nD) (t : Fin cfg0.N) (d) : (dats m 0 c).before 10 t d = arr10 m c :=
  (before0_10_of m (dats m 0 c) rfl (fun t => (iblk10 m c t).symm) t d).trans (iblk10 m c t)

/-- The body finds window 11's whole array at every point. -/
theorem before11 (c : Dev nD) (t : Fin cfg0.N) (d) : (dats m 0 c).before 11 t d = arr11 m c :=
  (before0_11_of m (dats m 0 c) rfl (fun t => (iblk11 m c t).symm) t d).trans (iblk11 m c t)

/-- The body finds window 12's whole array at every point. -/
theorem before12 (c : Dev nD) (t : Fin cfg0.N) (d) : (dats m 0 c).before 12 t d = arr12 m c :=
  (before0_12_of m (dats m 0 c) rfl (fun t => (iblk12 m c t).symm) t d).trans (iblk12 m c t)

/-- The body finds window 13's whole array at every point. -/
theorem before13 (c : Dev nD) (t : Fin cfg0.N) (d) : (dats m 0 c).before 13 t d = arr13 m c :=
  (before0_13_of m (dats m 0 c) rfl (fun t => (iblk13 m c t).symm) t d).trans (iblk13 m c t)

end Cert.EncoderIdeal

end
-- ==== Proof.IdealPoint.lean ====
module

public import proofs.«01_k».proof.Proof.IdealData

@[expose] public section

set_option maxRecDepth 16384

noncomputable section

namespace Cert.EncoderIdeal

open Cert.KernelIdeal Cert.KernelIdeal.Gen Cert.EncoderPayload
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-- The result's window is idle but at the last point. -/
theorem idle14 : ∀ t : Fin grid0.N, cfg0.idle 14 (grid0.coords t) = !decide (t.val = 27) := by
  decide +kernel

/-- What the body leaves of the result's buffer: anything it held before, but at the last point the result. -/
def outPost (c : Dev nD) (t : Fin cfg0.N) : sProp 𝕄 :=
  if t.val = 27 then owns (c : Thread nD τ) (st0_14 t) fullShare (result m c)
  else iprop(∃ d, owns (c : Thread nD τ) (st0_14 t) fullShare ((dats m 0 c).before 14 t d))

/-- The clipped windows' blocks as the library spells them after the body. -/
theorem refill0 (c : Dev nD) (t : Fin cfg0.N) (d : Vec Ideal S1x16384x128 .i32) :
    win0_0.fill (grid0.coords t) d (win0_0.cut (grid0.coords t) (xBlock m c t fun _ => 0#32)) = xBlock m c t d := by
  unfold xBlock; rw [Window.cut_fill]
/-- A table block cut to the part inside the array and filled again past it is the block with the new filling. -/
theorem refill1 (c : Dev nD) (t : Fin cfg0.N) (d : Vec Ideal S64x16384 .f32) :
    win0_1.fill (grid0.coords t) d (win0_1.cut (grid0.coords t) (tBlock m c t fun _ => (0 : EReal))) = tBlock m c t d := by
  unfold tBlock; rw [Window.cut_fill]

/-- The body at a point, on the windows' current buffers: it leaves the inputs as they were, the accumulator with one
    block more and the result's buffer as `outPost` says. -/
theorem body_point (c : Dev nD) (t : Fin cfg0.N) :
    iprop((accHeld m c t.val ∗ ∃ r, prngReg c r) ∗ (dats m 0 c).owesAt () t.castSucc ∗ (∃ d, owns (c : Thread nD τ) (st0_0 t) fullShare (xBlock m c t d)) ∗ (∃ d, owns (c : Thread nD τ) (st0_1 t) fullShare (tBlock m c t d)) ∗ owns (c : Thread nD τ) (st0_2 t) fullShare (arr2 m c) ∗ owns (c : Thread nD τ) (st0_3 t) fullShare (arr3 m c) ∗ owns (c : Thread nD τ) (st0_4 t) fullShare (arr4 m c) ∗ owns (c : Thread nD τ) (st0_5 t) fullShare (arr5 m c) ∗ owns (c : Thread nD τ) (st0_6 t) fullShare (arr6 m c) ∗ owns (c : Thread nD τ) (st0_7 t) fullShare (arr7 m c) ∗ owns (c : Thread nD τ) (st0_8 t) fullShare (arr8 m c) ∗ owns (c : Thread nD τ) (st0_9 t) fullShare (arr9 m c) ∗ owns (c : Thread nD τ) (st0_10 t) fullShare (arr10 m c) ∗ owns (c : Thread nD τ) (st0_11 t) fullShare (arr11 m c) ∗ owns (c : Thread nD τ) (st0_12 t) fullShare (arr12 m c) ∗ owns (c : Thread nD τ) (st0_13 t) fullShare (arr13 m c) ∗ (∃ d, owns (c : Thread nD τ) (st0_14 t) fullShare ((dats m 0 c).before 14 t d)))
      ⊢ wp frame (wpE (defs₀ (F := Ideal)) 𝒱₀ c none) Set.univ (bodyAt0 t) fun _ =>
          iprop((accHeld m c (t.val + 1) ∗ ∃ r, prngReg c r) ∗ (dats m 0 c).owesAt () t.castSucc ∗ (∃ d, owns (c : Thread nD τ) (st0_0 t) fullShare (xBlock m c t d)) ∗ (∃ d, owns (c : Thread nD τ) (st0_1 t) fullShare (tBlock m c t d)) ∗ owns (c : Thread nD τ) (st0_2 t) fullShare (arr2 m c) ∗ owns (c : Thread nD τ) (st0_3 t) fullShare (arr3 m c) ∗ owns (c : Thread nD τ) (st0_4 t) fullShare (arr4 m c) ∗ owns (c : Thread nD τ) (st0_5 t) fullShare (arr5 m c) ∗ owns (c : Thread nD τ) (st0_6 t) fullShare (arr6 m c) ∗ owns (c : Thread nD τ) (st0_7 t) fullShare (arr7 m c) ∗ owns (c : Thread nD τ) (st0_8 t) fullShare (arr8 m c) ∗ owns (c : Thread nD τ) (st0_9 t) fullShare (arr9 m c) ∗ owns (c : Thread nD τ) (st0_10 t) fullShare (arr10 m c) ∗ owns (c : Thread nD τ) (st0_11 t) fullShare (arr11 m c) ∗ owns (c : Thread nD τ) (st0_12 t) fullShare (arr12 m c) ∗ owns (c : Thread nD τ) (st0_13 t) fullShare (arr13 m c) ∗ outPost m c t) := by
  have hc := conds t
  have hv := coords_val t
  have ht : t.val < 28 := t.isLt
  unfold accHeld
  iintro ⟨⟨⟨%A, %hA, HS⟩, HP⟩, Ho, ⟨%d0, H0⟩, ⟨%d1, H1⟩, H2, H3, H4, H5, H6, H7, H8, H9, H10, H11, H12, H13, ⟨%d14, H14⟩⟩
  by_cases h4 : t.val < 4
  · have hc1 := hc.1.mpr h4
    have hc2 : ¬ k0_cond2 (grid0.coords t) = 1#1 := fun h => by have := hc.2.1.mp h; omega
    have hc3 : ¬ k0_cond3 (grid0.coords t) = 1#1 := fun h => by have := hc.2.2.mp h; omega
    have hi := inv_first (reads m c t d0 d1) t.val hv.1 hv.2 h4 A hA
    iapply (body_first (F := Ideal) c Set.univ (grid0.coords t) hc1 hc2 hc3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) (Memref.whole cc0_scratch0) (Memref.isWhole_whole _)
      (xBlock m c t d0) (tBlock m c t d1) (arr2 m c) (arr3 m c) (arr4 m c) (arr5 m c) (arr6 m c) (arr7 m c) (arr8 m c) (arr9 m c) (arr10 m c) (arr11 m c) (arr12 m c) (arr13 m c) ((dats m 0 c).before 14 t d14) A)
    isplitl [H0 H1 H2 H3 H4 H5 H6 H7 H8 H9 H10 H11 H12 H13 H14 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact HS
    iintro ⟨H0, H1, H2, H3, H4, H5, H6, H7, H8, H9, H10, H11, H12, H13, H14, HS⟩
    isplitl [HS HP]
    · isplitl [HS]
      · iexists (accFirst (grid0.coords t) (xBlock m c t d0) (tBlock m c t d1) A); isplitr; · ipureintro; exact hi
        iexact HS
      iexact HP
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold outPost; rw [if_neg (by omega)]
    iexists d14; iexact H14
  have hc1 : ¬ k0_cond1 (grid0.coords t) = 1#1 := fun h => h4 (hc.1.mp h)
  have hc2 := hc.2.1.mpr (Nat.le_of_not_lt h4)
  have hi := inv_later hc2 (reads m c t d0 d1) t.val hv.1 hv.2 (Nat.le_of_not_lt h4) A hA
  by_cases h27 : t.val = 27
  · have hc3 := hc.2.2.mpr h27
    iapply (body_last (F := Ideal) c Set.univ (grid0.coords t) hc1 hc2 hc3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) (Memref.whole cc0_scratch0) (Memref.isWhole_whole _)
      (xBlock m c t d0) (tBlock m c t d1) (arr2 m c) (arr3 m c) (arr4 m c) (arr5 m c) (arr6 m c) (arr7 m c) (arr8 m c) (arr9 m c) (arr10 m c) (arr11 m c) (arr12 m c) (arr13 m c) ((dats m 0 c).before 14 t d14) A)
    isplitl [H0 H1 H2 H3 H4 H5 H6 H7 H8 H9 H10 H11 H12 H13 H14 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact HS
    iintro ⟨H0, H1, H2, H3, H4, H5, H6, H7, H8, H9, H10, H11, H12, H13, H14, HS⟩
    isplitl [HS HP]
    · isplitl [HS]
      · iexists (accLater (grid0.coords t) hc2 (xBlock m c t d0) (tBlock m c t d1) A); isplitr; · ipureintro; exact hi
        iexact HS
      iexact HP
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold outPost; rw [if_pos h27]
    have e : accLater (grid0.coords t) hc2 (xBlock m c t d0) (tBlock m c t d1) A = fullAcc m c := fullAcc_of_inv m c _ (by rw [← show t.val + 1 = 28 by omega]; exact hi)
    rw [e]
    iexact H14
  · have hc3 : ¬ k0_cond3 (grid0.coords t) = 1#1 := fun h => h27 (hc.2.2.mp h)
    iapply (body_later (F := Ideal) c Set.univ (grid0.coords t) hc1 hc2 hc3 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) (Memref.whole cc0_scratch0) (Memref.isWhole_whole _)
      (xBlock m c t d0) (tBlock m c t d1) (arr2 m c) (arr3 m c) (arr4 m c) (arr5 m c) (arr6 m c) (arr7 m c) (arr8 m c) (arr9 m c) (arr10 m c) (arr11 m c) (arr12 m c) (arr13 m c) ((dats m 0 c).before 14 t d14) A)
    isplitl [H0 H1 H2 H3 H4 H5 H6 H7 H8 H9 H10 H11 H12 H13 H14 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact HS
    iintro ⟨H0, H1, H2, H3, H4, H5, H6, H7, H8, H9, H10, H11, H12, H13, H14, HS⟩
    isplitl [HS HP]
    · isplitl [HS]
      · iexists (accLater (grid0.coords t) hc2 (xBlock m c t d0) (tBlock m c t d1) A); isplitr; · ipureintro; exact hi
        iexact HS
      iexact HP
    isplitl [Ho]; · iexact Ho
    isplitl [H0]; · iexists d0; iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold outPost; rw [if_neg (by omega)]
    iexists d14; iexact H14

end Cert.EncoderIdeal

end
-- ==== Proof.IdealRun.lean ====
module

public import proofs.«01_k».proof.Proof.IdealPoint

@[expose] public section

set_option maxRecDepth 16384

noncomputable section

namespace Cert.EncoderIdeal

open Cert.KernelIdeal Cert.KernelIdeal.Gen Cert.EncoderPayload
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-- The library's statement of what is left of the result's buffer. -/
def outLib (c : Dev nD) (t : Fin cfg0.N) : sProp 𝕄 :=
  match cfg0.idle 14 (cfg0.grid.coords t) with
  | true =>
    match (cfg0.win 14).flush t with
    | false => iprop(∃ d, owns (c : Thread nD τ) ((cfg0.win 14).stage (cfg0.slots t 14)) fullShare ((dats m 0 c).before 14 t d))
    | true => owns (c : Thread nD τ) ((cfg0.win 14).stage (cfg0.slots t 14)) fullShare ((dats m 0 c).after 14 t)
  | false => owns (c : Thread nD τ) ((cfg0.win 14).stage (cfg0.slots t 14)) fullShare ((dats m 0 c).after 14 t)

/-- What the body leaves of the result's buffer is what the library asks for. -/
theorem outLib_of (c : Dev nD) (t : Fin cfg0.N) : outPost m c t ⊢ outLib m c t := by
  have hi : cfg0.idle 14 (cfg0.grid.coords t) = !decide (t.val = 27) := idle14 t
  have ht : t.val < 28 := t.isLt
  unfold outPost outLib
  by_cases h : t.val = 27
  · rw [hi, if_pos h, decide_eq_true h]
    exact .rfl
  · have hf : (cfg0.win 14).flush t = false := by
      rw [← Bool.not_eq_true]
      intro e
      have := (flush0_14 t).mp e
      omega
    rw [hi, if_neg h, decide_eq_false h, hf]
    exact .rfl

/-- What the body finds, as the library states it and as the body's theorem reads it. -/
theorem found (c : Dev nD) (t : Fin cfg0.N) :
    iprop((accHeld m c t.val ∗ ∃ r, prngReg c r) ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))
      ⊢ iprop((accHeld m c t.val ∗ ∃ r, prngReg c r) ∗ (dats m 0 c).owesAt () t.castSucc ∗ (∃ d, owns (c : Thread nD τ) (st0_0 t) fullShare (xBlock m c t d)) ∗ (∃ d, owns (c : Thread nD τ) (st0_1 t) fullShare (tBlock m c t d)) ∗ owns (c : Thread nD τ) (st0_2 t) fullShare (arr2 m c) ∗ owns (c : Thread nD τ) (st0_3 t) fullShare (arr3 m c) ∗ owns (c : Thread nD τ) (st0_4 t) fullShare (arr4 m c) ∗ owns (c : Thread nD τ) (st0_5 t) fullShare (arr5 m c) ∗ owns (c : Thread nD τ) (st0_6 t) fullShare (arr6 m c) ∗ owns (c : Thread nD τ) (st0_7 t) fullShare (arr7 m c) ∗ owns (c : Thread nD τ) (st0_8 t) fullShare (arr8 m c) ∗ owns (c : Thread nD τ) (st0_9 t) fullShare (arr9 m c) ∗ owns (c : Thread nD τ) (st0_10 t) fullShare (arr10 m c) ∗ owns (c : Thread nD τ) (st0_11 t) fullShare (arr11 m c) ∗ owns (c : Thread nD τ) (st0_12 t) fullShare (arr12 m c) ∗ owns (c : Thread nD τ) (st0_13 t) fullShare (arr13 m c) ∗ (∃ d, owns (c : Thread nD τ) (st0_14 t) fullShare ((dats m 0 c).before 14 t d))) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  isplitl [HΦ]; · iexact HΦ
  isplitl [Ho]; · iexact Ho
  isplitl [H0]; · iexists d0; iapply (Entails.of_eq (congrArg (owns (c : Thread nD τ) (st0_0 t) fullShare) (before0 m c t d0))); iexact H0
  isplitl [H1]; · iexists d1; iapply (Entails.of_eq (congrArg (owns (c : Thread nD τ) (st0_1 t) fullShare) (before1 m c t d1))); iexact H1
  isplitl [H2]; · iapply (Entails.of_eq (congrArg (owns (c : Thread nD τ) (st0_2 t) fullShare) (before2 m c t d2))); iexact H2
  isplitl [H3]; · iapply (Entails.of_eq (congrArg (owns (c : Thread nD τ) (st0_3 t) fullShare) (before3 m c t d3))); iexact H3
  isplitl [H4]; · iapply (Entails.of_eq (congrArg (owns (c : Thread nD τ) (st0_4 t) fullShare) (before4 m c t d4))); iexact H4
  isplitl [H5]; · iapply (Entails.of_eq (congrArg (owns (c : Thread nD τ) (st0_5 t) fullShare) (before5 m c t d5))); iexact H5
  isplitl [H6]; · iapply (Entails.of_eq (congrArg (owns (c : Thread nD τ) (st0_6 t) fullShare) (before6 m c t d6))); iexact H6
  isplitl [H7]; · iapply (Entails.of_eq (congrArg (owns (c : Thread nD τ) (st0_7 t) fullShare) (before7 m c t d7))); iexact H7
  isplitl [H8]; · iapply (Entails.of_eq (congrArg (owns (c : Thread nD τ) (st0_8 t) fullShare) (before8 m c t d8))); iexact H8
  isplitl [H9]; · iapply (Entails.of_eq (congrArg (owns (c : Thread nD τ) (st0_9 t) fullShare) (before9 m c t d9))); iexact H9
  isplitl [H10]; · iapply (Entails.of_eq (congrArg (owns (c : Thread nD τ) (st0_10 t) fullShare) (before10 m c t d10))); iexact H10
  isplitl [H11]; · iapply (Entails.of_eq (congrArg (owns (c : Thread nD τ) (st0_11 t) fullShare) (before11 m c t d11))); iexact H11
  isplitl [H12]; · iapply (Entails.of_eq (congrArg (owns (c : Thread nD τ) (st0_12 t) fullShare) (before12 m c t d12))); iexact H12
  isplitl [H13]; · iapply (Entails.of_eq (congrArg (owns (c : Thread nD τ) (st0_13 t) fullShare) (before13 m c t d13))); iexact H13
  iexists d14; iexact H14

/-- What the body leaves, as its theorem states it and as the library asks it. -/
theorem left (c : Dev nD) (t : Fin cfg0.N) :
    iprop((accHeld m c (t.val + 1) ∗ ∃ r, prngReg c r) ∗ (dats m 0 c).owesAt () t.castSucc ∗ (∃ d, owns (c : Thread nD τ) (st0_0 t) fullShare (xBlock m c t d)) ∗ (∃ d, owns (c : Thread nD τ) (st0_1 t) fullShare (tBlock m c t d)) ∗ owns (c : Thread nD τ) (st0_2 t) fullShare (arr2 m c) ∗ owns (c : Thread nD τ) (st0_3 t) fullShare (arr3 m c) ∗ owns (c : Thread nD τ) (st0_4 t) fullShare (arr4 m c) ∗ owns (c : Thread nD τ) (st0_5 t) fullShare (arr5 m c) ∗ owns (c : Thread nD τ) (st0_6 t) fullShare (arr6 m c) ∗ owns (c : Thread nD τ) (st0_7 t) fullShare (arr7 m c) ∗ owns (c : Thread nD τ) (st0_8 t) fullShare (arr8 m c) ∗ owns (c : Thread nD τ) (st0_9 t) fullShare (arr9 m c) ∗ owns (c : Thread nD τ) (st0_10 t) fullShare (arr10 m c) ∗ owns (c : Thread nD τ) (st0_11 t) fullShare (arr11 m c) ∗ owns (c : Thread nD τ) (st0_12 t) fullShare (arr12 m c) ∗ owns (c : Thread nD τ) (st0_13 t) fullShare (arr13 m c) ∗ outPost m c t)
      ⊢ iprop((accHeld m c (t.val + 1) ∗ ∃ r, prngReg c r) ∗ (dats m 0 c).owesAt () t.castSucc ∗ (∃ d, owns (c : Thread nD τ) (st0_0 t) fullShare (win0_0.fill (grid0.coords t) d (win0_0.cut (grid0.coords t) ((dats m 0 c).after 0 t)))) ∗ (∃ d, owns (c : Thread nD τ) (st0_1 t) fullShare (win0_1.fill (grid0.coords t) d (win0_1.cut (grid0.coords t) ((dats m 0 c).after 1 t)))) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ outLib m c t) := by
  iintro ⟨HΦ, Ho, ⟨%d0, H0⟩, ⟨%d1, H1⟩, H2, H3, H4, H5, H6, H7, H8, H9, H10, H11, H12, H13, H14⟩
  isplitl [HΦ]; · iexact HΦ
  isplitl [Ho]; · iexact Ho
  isplitl [H0]; · iexists d0; iapply (Entails.of_eq (congrArg (owns (c : Thread nD τ) (st0_0 t) fullShare) (refill0 m c t d0).symm)); iexact H0
  isplitl [H1]; · iexists d1; iapply (Entails.of_eq (congrArg (owns (c : Thread nD τ) (st0_1 t) fullShare) (refill1 m c t d1).symm)); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (outLib_of m c t); iexact H14

/-- The body's obligation at every point. -/
theorem body_obligation (c : Dev nD) : BodyObligationLoose (dats m 0 c) (defs₀ (F := Ideal)) 𝒱₀ () Set.univ := fun t => by
  rw [bigSep_W0, bigSep_W0]
  exact triple_restated (body_point m c t) rfl (found m c t) fun _ => left m c t

/-- The region starts with the accumulator at any contents: no pass has begun. -/
theorem starts (c : Dev nD) : Pipeline.ΦA spec0 c ⊢ (dats m 0 c).Φ 0 := by
  change _ ⊢ iprop(accHeld m c 0 ∗ ∃ r, prngReg c r)
  unfold Pipeline.ΦA accHeld
  rw [scopedRest0_eq]
  iintro ⟨⟨%fs, HS⟩, HP⟩
  isplitl [HS]
  · iexists fs; isplitr
    · ipureintro
      intro q r b hd
      exfalso
      have hq := q.isLt
      unfold done at hd
      omega
    · rw [owns_whole]; iexact HS
  iexact HP

/-- The region ends with the accumulator at some contents. -/
theorem ends (c : Dev nD) : (dats m 0 c).Φ (Fin.last cfg0.N) ⊢ Pipeline.ΦA spec0 c := by
  change iprop(accHeld m c cfg0.N ∗ ∃ r, prngReg c r) ⊢ _
  unfold Pipeline.ΦA accHeld
  rw [scopedRest0_eq]
  iintro ⟨⟨%A, %hA, HS⟩, HP⟩
  isplitl [HS]
  · iexists A; iapply (Entails.of_eq (owns_whole (c : Thread nD τ) cc0_scratch0 fullShare A)); iexact HS
  iexact HP

set_option backward.isDefEq.respectTransparency.types false in
/-- Every weakly fair execution of @main terminates: the arrays the region stages end at the proof data's contents, every
    other buffer as the lines around the region leave it, and every counter at zero. -/
theorem run_main (ρ : Dev nD → PrngReg) :
    θ_run defs (onTc (τ := τ) (main (F := Ideal))) (s₀ m ρ) (fun r =>
      Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hin := starts m) (hout := ends m)
    (Q' := fun r => Pipeline.FramePost cfgs (dats m) 0 (Pipeline.afterTail₀ cfgs (dats m) 0 (V0 m) [hostOps1]) r ∧ r.2.sem = fun _ => 0)
    (hQ' := fun _ h => h)

end Cert.EncoderIdeal

end
-- ==== Proof.IdealValue.lean ====
module

public import proofs.«01_k».proof.Proof.IdealRun

@[expose] public section

set_option maxRecDepth 16384

noncomputable section

namespace Cert.EncoderIdeal

open Cert.KernelIdeal Cert.KernelIdeal.Gen Cert.EncoderPayload
open Idealize.ShloMosaic Idealize.ShloMosaic.TcCoe Idealize.SL.Sem
open Idealize.ShloMosaic.Pipeline (Dat)

variable (m : (ℓ : Loc nD τ sig) → Buf (Elt Ideal) ℓ)

/-- The region's result array ends holding the encoder's result. -/
theorem array14 (c : Dev nD) : (dats m 0 c).arrAt 14 (cfgs 0).N = result m c := by
  refine (dats m 0 c).arrAt_eq_of_covers 14 _ (by decide +kernel) fun t hf y => ?_
  blk_simp
  blk_ext [(idxW t).2.2.2.2.2.2.2.2.2.2.2.2]

/-- @main's result, as its last line leaves it: the region's result transposed. -/
theorem tail_v13 (c : Dev nD) : Pipeline.afterTail₀ cfgs (dats m) 0 (V0 m) [hostOps1] c main_v13
    = transpose S128x64 [1, 0] (result m c) transposes_S64x128_S128x64_1_0 := by
  unfold Pipeline.afterTail₀
  simp only [hostOps1, List.flatten_cons, List.flatten_nil, List.append_nil]
  have e : Pipeline.withArrays (cfgs 0).spec c (V0 m c) (fun w => (dats m 0 c).arrAt w (cfgs 0).N) (Proc.devRef .tc main_v12)
      = (dats m 0 c).arrAt 14 (cfgs 0).N :=
    Pipeline.withArrays_arr spec0 winFacts0.arr_inj c (V0 m c) (fun w => (dats m 0 c).arrAt w (cfgs 0).N) 14
  rw [StableHlo.after_cons]
  rw [StableHlo.after_nil, StableHlo.unary_result]
  rw [array14] at e
  exact congrArg (fun v => transpose S128x64 [1, 0] v transposes_S64x128_S128x64_1_0) e

end Cert.EncoderIdeal

end
-- ==== Proof.Entry.lean ====
module

public import proofs.«01_k».proof.Proof.Pooled
public import proofs.«01_k».proof.Proof.IdealValue
public import Idealize.ShloMosaic.Lib.Claim

@[expose] public section

set_option maxRecDepth 16384

noncomputable section

namespace Cert.EncoderIdeal

open Cert.KernelIdeal Cert.KernelIdeal.Gen Cert.EncoderPayload
open Idealize.ShloMosaic Idealize.ShloMosaic.TcCoe Idealize.SL.Sem

variable (m : (ℓ : Loc nD τ sig) → Buf (Elt Ideal) ℓ) (c : Dev nD)

/-- The mask that the region reads: the argument with its axes turned. -/
theorem xArr_at (q : Fin 4) (v : Fin 100000) (b : Fin 128) : xArr m c (ix3 q v b) = m ((c.tc : Thread nD τ).loc main_arg0) (ix3 b q v) := by
  unfold xArr
  unfold V V0
  simp only [List.flatten_cons, List.flatten_nil, List.append_nil, hostOps0]
  entry_read
  pointwise

/-- The table that the region reads: the argument transposed. -/
theorem tArr_at (r : Fin 64) (v : Fin 100000) : tArr m c (ix2 r v) = m ((c.tc : Thread nD τ).loc main_arg1) (ix2 v r) := by
  unfold tArr
  unfold V V0
  simp only [List.flatten_cons, List.flatten_nil, List.append_nil, hostOps0]
  entry_read
  pointwise

/-- Window 3's column of 64: argument 3. -/
theorem arr3_at (k : Fin 64) : arr3 m c (ix2 k (0 : Fin 1)) = m ((c.tc : Thread nD τ).loc main_arg3) (ix1 k) := by
  unfold arr3
  unfold V V0
  simp only [List.flatten_cons, List.flatten_nil, List.append_nil, hostOps0]
  entry_read
  pointwise

/-- Window 5's column of 64: argument 5. -/
theorem arr5_at (k : Fin 64) : arr5 m c (ix2 k (0 : Fin 1)) = m ((c.tc : Thread nD τ).loc main_arg5) (ix1 k) := by
  unfold arr5
  unfold V V0
  simp only [List.flatten_cons, List.flatten_nil, List.append_nil, hostOps0]
  entry_read
  pointwise

/-- Window 6's column of 64: argument 6. -/
theorem arr6_at (k : Fin 64) : arr6 m c (ix2 k (0 : Fin 1)) = m ((c.tc : Thread nD τ).loc main_arg6) (ix1 k) := by
  unfold arr6
  unfold V V0
  simp only [List.flatten_cons, List.flatten_nil, List.append_nil, hostOps0]
  entry_read
  pointwise

/-- Window 7's column of 64: argument 7. -/
theorem arr7_at (k : Fin 64) : arr7 m c (ix2 k (0 : Fin 1)) = m ((c.tc : Thread nD τ).loc main_arg7) (ix1 k) := by
  unfold arr7
  unfold V V0
  simp only [List.flatten_cons, List.flatten_nil, List.append_nil, hostOps0]
  entry_read
  pointwise

/-- Window 8's column of 64: argument 8. -/
theorem arr8_at (k : Fin 64) : arr8 m c (ix2 k (0 : Fin 1)) = m ((c.tc : Thread nD τ).loc main_arg8) (ix1 k) := by
  unfold arr8
  unfold V V0
  simp only [List.flatten_cons, List.flatten_nil, List.append_nil, hostOps0]
  entry_read
  pointwise

/-- Window 9's column of 64: argument 9. -/
theorem arr9_at (k : Fin 64) : arr9 m c (ix2 k (0 : Fin 1)) = m ((c.tc : Thread nD τ).loc main_arg9) (ix1 k) := by
  unfold arr9
  unfold V V0
  simp only [List.flatten_cons, List.flatten_nil, List.append_nil, hostOps0]
  entry_read
  pointwise

/-- Window 10's column of 64: argument 10. -/
theorem arr10_at (k : Fin 64) : arr10 m c (ix2 k (0 : Fin 1)) = m ((c.tc : Thread nD τ).loc main_arg10) (ix1 k) := by
  unfold arr10
  unfold V V0
  simp only [List.flatten_cons, List.flatten_nil, List.append_nil, hostOps0]
  entry_read
  pointwise

/-- Window 11's column of 64: argument 11. -/
theorem arr11_at (k : Fin 64) : arr11 m c (ix2 k (0 : Fin 1)) = m ((c.tc : Thread nD τ).loc main_arg11) (ix1 k) := by
  unfold arr11
  unfold V V0
  simp only [List.flatten_cons, List.flatten_nil, List.append_nil, hostOps0]
  entry_read
  pointwise

/-- Window 12's column of 64: argument 12. -/
theorem arr12_at (k : Fin 64) : arr12 m c (ix2 k (0 : Fin 1)) = m ((c.tc : Thread nD τ).loc main_arg12) (ix1 k) := by
  unfold arr12
  unfold V V0
  simp only [List.flatten_cons, List.flatten_nil, List.append_nil, hostOps0]
  entry_read
  pointwise

/-- Window 13's column of 64: argument 13. -/
theorem arr13_at (k : Fin 64) : arr13 m c (ix2 k (0 : Fin 1)) = m ((c.tc : Thread nD τ).loc main_arg13) (ix1 k) := by
  unfold arr13
  unfold V V0
  simp only [List.flatten_cons, List.flatten_nil, List.append_nil, hostOps0]
  entry_read
  pointwise

end Cert.EncoderIdeal

end
-- ==== Proof.Equation.lean ====
module

public import proofs.«01_k».proof.Proof.Entry

@[expose] public section

set_option maxRecDepth 16384

noncomputable section

namespace Cert.EncoderIdeal

open Cert.KernelIdeal Cert.KernelIdeal.Gen Cert.EncoderPayload Cert.EncoderReference
open Idealize.ShloMosaic Idealize.ShloMosaic.TcCoe Idealize.SL.Sem

variable (m : (ℓ : Loc nD τ sig) → Buf (Elt Ideal) ℓ) (c : Dev nD)

/-- The kernel's first layer is the reference's, transposed, for a mask of zeros and ones. -/
theorem stage1_eq (h01 : ∀ i, (m ((c.tc : Thread nD τ).loc main_arg0)) i = 0#32 ∨ (m ((c.tc : Thread nD τ).loc main_arg0)) i = 1#32) (o : Fin 64) (b : Fin 128) :
    stage1 (F := Ideal) (fullAcc m c) (arr2 m c) (arr3 m c) (arr6 m c) (arr7 m c) (arr10 m c) (arr11 m c) (ix2 o b)
      = refLayer (refMean (m ((c.tc : Thread nD τ).loc main_arg0)) (m ((c.tc : Thread nD τ).loc main_arg1))) (m ((c.tc : Thread nD τ).loc main_arg6)) (m ((c.tc : Thread nD τ).loc main_arg7)) (m ((c.tc : Thread nD τ).loc main_arg2)) (m ((c.tc : Thread nD τ).loc main_arg3)) (m ((c.tc : Thread nD τ).loc main_arg10)) (m ((c.tc : Thread nD τ).loc main_arg11)) (ix2 b o) := by
  rw [stage1_at, layer_at]
  have h2 := V_main_arg2 m c
  have hp : ∀ k, k0_pay2 (F := Ideal) (fullAcc m c) (ix2 (k : Fin 64) b) = refMean (m ((c.tc : Thread nD τ).loc main_arg0)) (m ((c.tc : Thread nD τ).loc main_arg1)) (ix2 b k) := fun k =>
    Cert.EncoderPooled.pay2_eq (fullAcc m c) _ _ (xArr m c) (tArr m c) (fun b q v => h01 (ix3 b q v)) (xArr_at m c) (tArr_at m c)
      (fun _ _ _ => rfl) k b
  exact Cert.EncoderLayers.layer_congr hp (arr6_at m c) (arr7_at m c) (fun i k => congrFun h2 (ix2 i k)) (arr3_at m c) (arr10_at m c) (arr11_at m c) o

/-- The kernel's result is the reference's, for a mask of zeros and ones. -/
theorem result_eq (h01 : ∀ i, (m ((c.tc : Thread nD τ).loc main_arg0)) i = 0#32 ∨ (m ((c.tc : Thread nD τ).loc main_arg0)) i = 1#32) :
    transpose S128x64 [1, 0] (result m c) transposes_S64x128_S128x64_1_0
      = refLayer (refLayer (refMean (m ((c.tc : Thread nD τ).loc main_arg0)) (m ((c.tc : Thread nD τ).loc main_arg1))) (m ((c.tc : Thread nD τ).loc main_arg6)) (m ((c.tc : Thread nD τ).loc main_arg7)) (m ((c.tc : Thread nD τ).loc main_arg2)) (m ((c.tc : Thread nD τ).loc main_arg3)) (m ((c.tc : Thread nD τ).loc main_arg10)) (m ((c.tc : Thread nD τ).loc main_arg11))) (m ((c.tc : Thread nD τ).loc main_arg8)) (m ((c.tc : Thread nD τ).loc main_arg9)) (m ((c.tc : Thread nD τ).loc main_arg4)) (m ((c.tc : Thread nD τ).loc main_arg5)) (m ((c.tc : Thread nD τ).loc main_arg12)) (m ((c.tc : Thread nD τ).loc main_arg13)) := by
  funext y
  idx_vars y
  rw [layer_at]
  have h4 := V_main_arg4 m c
  have e : transpose S128x64 [1, 0] (result m c) transposes_S64x128_S128x64_1_0 (ix2 y0 y1) = result m c (ix2 y1 y0) := by pointwise
  refine e.trans ?_
  unfold result
  rw [finalOut_at]
  exact Cert.EncoderLayers.layer_congr (fun k => stage1_eq m c h01 k y0) (arr8_at m c) (arr9_at m c) (fun i k => congrFun h4 (ix2 i k)) (arr5_at m c)
    (arr12_at m c) (arr13_at m c) y1

end Cert.EncoderIdeal

end
-- ==== Proof.Precondition.lean ====
module

public import proofs.«01_k».proof.Defs
public import Idealize.ShloMosaic.Lib.ReduceAll
public import Idealize.ShloMosaic.Lib.Pointwise
public import Idealize.ShloMosaic.Lib.StableHlo.Predicate

@[expose] public section

set_option maxRecDepth 16384

noncomputable section

namespace Cert.EncoderPre

open Cert.Pre_zero_or_one Idealize.ShloMosaic

/-- The side conditions that the precondition's operations state. -/
instance facts : Cert.Pre_zero_or_one.Facts where
  bcast_S_S128x4x100000 := by decide
  reducesTo_S128x4x100000_S_d0_1_2 := by decide
  h_S_ := by decide

/-- A mask that meets the precondition has only the words 0 and 1. -/
theorem zero_or_one (x : IVec S128x4x100000 32) (a1 : FVec Ideal S100000x64 .f32) (a2 : FVec Ideal S64x64 .f32) (a3 : FVec Ideal S64 .f32)
    (a4 : FVec Ideal S64x64 .f32) (a5 a6 a7 a8 a9 a10 a11 a12 a13 : FVec Ideal S64 .f32) (j : S_.Idx)
    (h : fn (F := Ideal) x a1 a2 a3 a4 a5 a6 a7 a8 a9 a10 a11 a12 a13 j = 1#1) (i : S128x4x100000.Idx) : x i = 0#32 ∨ x i = 1#32 := by
  have : Subsingleton S_.Idx := ⟨fun a b => funext fun k => k.elim0⟩
  have e : IntOp.ori (IntOp.cmpi .eq (x i) 0#32) (IntOp.cmpi .eq (x i) 1#32) = 1#1 := Host.reduce_andi_all _ _ _ _ j h i
  simpa [IntOp.cmpi, IntOp.ori, StableHlo.Predicate.ofBool_eq_one_iff] using e

end Cert.EncoderPre

end
-- ==== Proof.Value.lean ====
module

public import proofs.«01_k».proof.Proof.Equation
public import proofs.«01_k».proof.Proof.Precondition
public import Idealize.ShloMosaic.Lib.Quiescent

@[expose] public section

set_option maxRecDepth 16384

noncomputable section

namespace Cert.EncoderIdeal

open Cert.KernelIdeal Cert.KernelIdeal.Gen Cert.EncoderPayload
open Idealize.ShloMosaic Idealize.ShloMosaic.TcCoe Idealize.SL.Sem

/-- The kernel runs, ends with the encoder's result transposed, and leaves its fourteen arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
          r.2.mem ((c.tc : Thread nD τ).loc main_v13) = transpose S128x64 [1, 0] (result m c) transposes_S64x128_S128x64_1_0
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)) :=
  (θ_run defs _ _).mono (fun r h c => ⟨
      ((h.1 c).2 main_v13 (Pipeline.mem_restRefs_of main_v13 (by decide) (by decide))).trans (tail_v13 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c)),
      ((h.1 c).2 main_arg3 (Pipeline.mem_restRefs_of main_arg3 (by decide) (by decide))).trans (W_main_arg3 m (dats m) c),
      ((h.1 c).1 4).trans (((dats m 0 c).arrAt_in 4 rfl _).trans (V_main_arg4 m c)),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c),
      ((h.1 c).2 main_arg12 (Pipeline.mem_restRefs_of main_arg12 (by decide) (by decide))).trans (W_main_arg12 m (dats m) c),
      ((h.1 c).2 main_arg13 (Pipeline.mem_restRefs_of main_arg13 (by decide) (by decide))).trans (W_main_arg13 m (dats m) c)⟩) (run_main m ρ)

/-- The kernel and the reference end with equal results, element by element, on masks of zeros and ones. -/
theorem value : Cert.algebraic_KernelIdeal_ReferenceIdeal_pre_zero_or_one := by
  intro m g m' g' hpre hargs
  refine ⟨fun c => transpose S128x64 [1, 0] (result m c) transposes_S64x128_S128x64_1_0, run_value m g, ?_⟩
  refine (θ_run Cert.ReferenceIdeal.defs _ _).mono (fun r h c => ⟨(h c).1.trans ?_, (h c).2⟩) (Cert.ReferenceIdeal.Value.run (F := Ideal) m' g')
  have h01 := fun i => Cert.EncoderPre.zero_or_one _ _ _ _ _ _ _ _ _ _ _ _ _ _ ix0 (congrFun (hpre c) ix0) i
  obtain ⟨a0, a1, a2, a3, a4, a5, a6, a7, a8, a9, a10, a11, a12, a13⟩ := hargs c
  refine (Cert.EncoderReference.res_eq m' c).trans (Eq.trans ?_ (result_eq m c h01).symm)
  rw [a0, a1, a2, a3, a4, a5, a6, a7, a8, a9, a10, a11, a12, a13]

end Cert.EncoderIdeal

end
-- ==== Proof.lean ====
module

public import proofs.«01_k».proof.Defs
public import proofs.«01_k».proof.Proof.KernelFrame
public import proofs.«01_k».proof.Proof.IdealFrame
public import proofs.«01_k».proof.Proof.ReferenceFrame
public import proofs.«01_k».proof.Proof.Value

@[expose] public section

noncomputable section

namespace Cert.Proof

/-- The kernel, its idealization and the reference run with their arguments unchanged and no counter left raised, the
    idealization is the kernel's own program, and on masks of zeros and ones the kernel and the reference end with equal
    results. -/
theorem claim : Cert.Claim :=
  ⟨Cert.Kernel.Gen.facts, Cert.KernelIdeal.Gen.facts, Cert.ReferenceIdeal.Gen.facts, Cert.EncoderPre.facts,
    Cert.EncoderFrame.frame, Cert.EncoderIdealFrame.frame, fun m g _ => Cert.EncoderIdealFrame.frame m g trivial,
    Cert.EncoderReference.frame, fun m g _ => Cert.EncoderReference.frame m g trivial, trivial, Cert.EncoderIdeal.value⟩

end Cert.Proof

end
